-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .f32) (main_arg1 : FVec F S256x16 .f32) (main_arg2 : IVec S512x2 32) (main_arg3 : FVec F S2x256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 16#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Pre_well_posed_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .f32) (main_arg1 : FVec F S256x16 .f32) (main_arg2 : IVec S512x2 32) (main_arg3 : FVec F S16x256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 16#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S64x512 : Shape := ⟨2, ![64, 512]⟩
abbrev S2x512x256 : Shape := ⟨3, ![2, 512, 256]⟩
abbrev S8x64x512 : Shape := ⟨3, ![8, 64, 512]⟩
abbrev S8 : Shape := ⟨1, ![8]⟩
abbrev S_ : Shape := ⟨0, ![]⟩
abbrev S512x16 : Shape := ⟨2, ![512, 16]⟩
abbrev S512 : Shape := ⟨1, ![512]⟩
abbrev S512x1 : Shape := ⟨2, ![512, 1]⟩
abbrev S1x512x256 : Shape := ⟨3, ![1, 512, 256]⟩
abbrev S1x64x256 : Shape := ⟨3, ![1, 64, 256]⟩
abbrev S64x256 : Shape := ⟨2, ![64, 256]⟩
abbrev S1x256x512 : Shape := ⟨3, ![1, 256, 512]⟩
abbrev S256x512 : Shape := ⟨2, ![256, 512]⟩
abbrev S1x64x512 : Shape := ⟨3, ![1, 64, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S2x256x512, .f32⟩
  | .hbm, ⟨4, _⟩ => ⟨S64x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S2x256x512, .f32⟩
  | .local _ .vmem, ⟨4, _⟩ => ⟨S64x512, .f32⟩
  | .local _ .vmem, ⟨5, _⟩ => ⟨S2x512x256, .f32⟩
  | .local _ .vmem, ⟨6, _⟩ => ⟨S8x64x512, .f32⟩
  | .local _ .vmem, ⟨7, _⟩ => ⟨S8x64x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_53 : BitVec 32) : Fin 3 → Nat :=
  let c0_55 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.addi v2 c1_i32_53
  let c8_i32_54 : BitVec 32 := 8#32
  let v94 : BitVec 32 := Scalar.remsi v93 c8_i32_54
  let c64_i32 : BitVec 32 := 64#32
  let v95 : BitVec 32 := Scalar.muli v94 c64_i32
  let v96 : Index := Scalar.indexCast v95
  let c0_56 : Index := 0#32
  ![0, v96.toNat, 0]
def k0_off2 (d0 : Dev nD) (c1_i32_53 : BitVec 32) : Fin 3 → Nat :=
  let c1_58 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.addi v2 c1_i32_53
  let c8_i32_54 : BitVec 32 := 8#32
  let v94 : BitVec 32 := Scalar.remsi v93 c8_i32_54
  let c64_i32_57 : BitVec 32 := 64#32
  let v99 : BitVec 32 := Scalar.muli v94 c64_i32_57
  let v100 : Index := Scalar.indexCast v99
  let c0_59 : Index := 0#32
  ![1, v100.toNat, 0]
def k0_dev8 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v93 : BitVec 32 := Scalar.addi v2 c1_i32_53
  let c8_i32_54 : BitVec 32 := 8#32
  let v94 : BitVec 32 := Scalar.remsi v93 c8_i32_54
  let c1_i32_75 : BitVec 32 := 1#32
  let v113 : BitVec 32 := Scalar.muli v94 c1_i32_75
  let v114 : BitVec 32 := Scalar.addi c0_i32_76 v113
  v114.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v123 : BitVec 32 := Scalar.addi v2 c2_i32_81
  let c8_i32_82 : BitVec 32 := 8#32
  let v124 : BitVec 32 := Scalar.remsi v123 c8_i32_82
  let c1_i32_103 : BitVec 32 := 1#32
  let v143 : BitVec 32 := Scalar.muli v124 c1_i32_103
  let v144 : BitVec 32 := Scalar.addi c0_i32_104 v143
  v144.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_109 : BitVec 32 := 3#32
  let v153 : BitVec 32 := Scalar.addi v2 c3_i32_109
  let c8_i32_110 : BitVec 32 := 8#32
  let v154 : BitVec 32 := Scalar.remsi v153 c8_i32_110
  let c1_i32_131 : BitVec 32 := 1#32
  let v173 : BitVec 32 := Scalar.muli v154 c1_i32_131
  let v174 : BitVec 32 := Scalar.addi c0_i32_132 v173
  v174.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_137 : BitVec 32 := 4#32
  let v183 : BitVec 32 := Scalar.addi v2 c4_i32_137
  let c8_i32_138 : BitVec 32 := 8#32
  let v184 : BitVec 32 := Scalar.remsi v183 c8_i32_138
  let c1_i32_159 : BitVec 32 := 1#32
  let v203 : BitVec 32 := Scalar.muli v184 c1_i32_159
  let v204 : BitVec 32 := Scalar.addi c0_i32_160 v203
  v204.toNat
def k0_dev12 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_165 : BitVec 32 := 5#32
  let v213 : BitVec 32 := Scalar.addi v2 c5_i32_165
  let c8_i32_166 : BitVec 32 := 8#32
  let v214 : BitVec 32 := Scalar.remsi v213 c8_i32_166
  let c1_i32_187 : BitVec 32 := 1#32
  let v233 : BitVec 32 := Scalar.muli v214 c1_i32_187
  let v234 : BitVec 32 := Scalar.addi c0_i32_188 v233
  v234.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_193 : BitVec 32 := 6#32
  let v243 : BitVec 32 := Scalar.addi v2 c6_i32_193
  let c8_i32_194 : BitVec 32 := 8#32
  let v244 : BitVec 32 := Scalar.remsi v243 c8_i32_194
  let c1_i32_215 : BitVec 32 := 1#32
  let v263 : BitVec 32 := Scalar.muli v244 c1_i32_215
  let v264 : BitVec 32 := Scalar.addi c0_i32_216 v263
  v264.toNat
def k0_dev14 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_221 : BitVec 32 := 7#32
  let v273 : BitVec 32 := Scalar.addi v2 c7_i32_221
  let c8_i32_222 : BitVec 32 := 8#32
  let v274 : BitVec 32 := Scalar.remsi v273 c8_i32_222
  let c1_i32_243 : BitVec 32 := 1#32
  let v293 : BitVec 32 := Scalar.muli v274 c1_i32_243
  let v294 : BitVec 32 := Scalar.addi c0_i32_244 v293
  v294.toNat
def k0_off3 (d0 : Dev nD) : Fin 3 → Nat :=
  let c0_250 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_249 : BitVec 32 := 64#32
  let v303 : BitVec 32 := Scalar.muli v2 c64_i32_249
  let v304 : Index := Scalar.indexCast v303
  let c0_251 : Index := 0#32
  ![0, v304.toNat, 0]
def k0_off4 (d0 : Dev nD) : Fin 3 → Nat :=
  let c1_253 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_252 : BitVec 32 := 64#32
  let v307 : BitVec 32 := Scalar.muli v2 c64_i32_252
  let v308 : Index := Scalar.indexCast v307
  let c0_254 : Index := 0#32
  ![1, v308.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S512x256x512 : Shape := ⟨3, ![512, 256, 512]⟩
abbrev S512x512 : Shape := ⟨2, ![512, 512]⟩

abbrev nBuf : Space → Nat
  | .hbm => 59
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S16x256x512, .f32⟩
  | .hbm, ⟨4, _⟩ => ⟨S512x16, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x16, .f32⟩
  | .hbm, ⟨15, _⟩ => ⟨S512x16, .f32⟩
  | .hbm, ⟨16, _⟩ => ⟨S_, .i32⟩
  | .hbm, ⟨17, _⟩ => ⟨S512x2, .i32⟩
  | .hbm, ⟨18, _⟩ => ⟨S512x2, .i1⟩
  | .hbm, ⟨19, _⟩ => ⟨S_, .i32⟩
  | .hbm, ⟨20, _⟩ => ⟨S512x2, .i32⟩
  | .hbm, ⟨21, _⟩ => ⟨S512x2, .i32⟩
  | .hbm, ⟨22, _⟩ => ⟨S512x2, .i32⟩
  | .hbm, ⟨23, _⟩ => ⟨S512x2x1, .i32⟩
  | .hbm, ⟨24, _⟩ => ⟨S512x2, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x1, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S512x256x512, .f32⟩
  | .hbm, ⟨39, _⟩ => ⟨S512x512, .f32⟩
  | .hbm, ⟨40, _⟩ => ⟨S512x1, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x256x512, .f32⟩
  | .hbm, ⟨51, _⟩ => ⟨S512x512, .f32⟩
  | .hbm, ⟨52, _⟩ => ⟨S512x1, .f32⟩
  | .hbm, ⟨53, _⟩ => ⟨S512x512, .f32⟩
  | .hbm, ⟨54, _⟩ => ⟨S512x512, .f32⟩
  | .hbm, ⟨55, _⟩ => ⟨S512x1, .f32⟩
  | .hbm, ⟨56, _⟩ => ⟨S512x512, .f32⟩
  | .hbm, ⟨57, _⟩ => ⟨S512x512, .f32⟩
  | .hbm, ⟨58, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Proto.lean ====
/-
# The exchange's protocol: who holds what, who pays whom, and with which contents

Eight devices. Device `c` computes, for each device `t`, the PARTIAL PRODUCT `part c t` of row block `t` against its own
two expert matrices; it sends `part c (c + o)` to device `c + o` for `o = 1, …, 7`, keeps `part c c`, and adds the eight
blocks that reach it. Every address is modulo 8.

* The barrier semaphore of `c`: seven duties, one per offset. The signal from the device `o` places after `c` hands `c`
  slot `o` of that device's gather buffer, which is where `c` will write to it.
* The send semaphore `o` of `c`: one duty, paid by the copy `c` itself starts; it returns slot `o` of the send buffer.
* The receive semaphore `o` of `c`: one duty, paid by the copy that the device `o` places before `c` starts; it hands
  over slot `o` of `c`'s gather buffer at the contents `gath c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) and the exchange's (duties `Fin 7`, an offset less one) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Addresses modulo eight -/

set_option backward.proofsInPublic true in
/-- The device `o` places after `c`. -/
def fwd (c : Dev nD) (o : ℕ) : Dev nD := ⟨(c.val + o) % 8, Nat.mod_lt _ (by decide)⟩
set_option backward.proofsInPublic true in
/-- The device `o` places before `c`, for `o < 8`. -/
def bwd (c : Dev nD) (o : ℕ) : Dev nD := ⟨(c.val + (8 - o)) % 8, Nat.mod_lt _ (by decide)⟩

/-- Going forward and then back leads home; -/
theorem bwd_fwd (c : Dev nD) (o : Fin 8) : bwd (fwd c o.val) o.val = c := by revert c o; decide
/-- so does going back and then forward. -/
theorem fwd_bwd (c : Dev nD) (o : Fin 8) : fwd (bwd c o.val) o.val = c := by revert c o; decide
/-- The device `i + 1` places on reaches home by the offset that `i` reversed names. -/
theorem fwd_rev (c : Dev nD) (i : Fin 7) : fwd (fwd c (i.val + 1)) (i.rev.val + 1) = c := by revert c i; decide
/-- No place on is the device itself; -/
theorem fwd_zero (c : Dev nD) : fwd c 0 = c := by revert c; decide
/-- nor is no place back another. -/
theorem bwd_zero (c : Dev nD) : bwd c 0 = c := by revert c; decide

/-- Moving `o` places round the eight devices. -/
def ring (o : Fin 8) : Dev nD ≃ Dev nD :=
  ⟨fun c => fwd c o.val, fun c => bwd c o.val, fun c => bwd_fwd c o, fun c => fwd_bwd c o⟩

/-- The offset that `i` names. -/
abbrev off (i : Fin 7) : Fin 8 := i.succ

/-! ## Buffers, slots and semaphores -/

abbrev xM : Memref sig .tc .vmem S512x256 .f32 := Memref.whole cc0_stg0_0
abbrev rM : Memref sig .tc .vmem S256x16 .f32 := Memref.whole cc0_stg1_0
abbrev iM : Memref sig .tc .vmem S512x2 .i32 := Memref.whole cc0_stg2_0
abbrev eM : Memref sig .tc .vmem S2x256x512 .f32 := Memref.whole cc0_stg3_0
abbrev oM : Memref sig .tc .vmem S64x512 .f32 := Memref.whole cc0_stg4_0
abbrev wM : Memref sig .tc .vmem S2x512x256 .f32 := Memref.whole cc0_scratch0
abbrev sM : Memref sig .tc .vmem S8x64x512 .f32 := Memref.whole cc0_scratch1
abbrev gM : Memref sig .tc .vmem S8x64x512 .f32 := Memref.whole cc0_scratch2

/-- A slot lies within its buffer of eight; -/
theorem inbG : ∀ (o : Fin 8) (a : Fin 3), (![o.val, 0, 0] : Fin 3 → Nat) a + S1x64x512.size a ≤ S8x64x512.size a := by decide
/-- a semaphore's place within its array of eight. -/
theorem inbS : ∀ (o : Fin 8) (a : Fin 1), (![o.val] : Fin 1 → Nat) a + S1.size a ≤ S8.size a := by decide

/-- Slot `o` of a buffer of eight blocks, as a rectangle. -/
abbrev slotR (o : Fin 8) : Rect S8x64x512 := Rect.unit (s := S8x64x512) ![o.val, 0, 0] S1x64x512.size (inbG o)
/-- Its elements. -/
def slotSet (o : Fin 8) : Finset S8x64x512.Idx := (slotR o).set

/-- Slot `o` of the send buffer and of the gather buffer, as the copies name them. -/
abbrev sSlot (o : Fin 8) : Memref sig .tc .vmem S64x512 .f32 := (sM.slice (slotR o) (fun _ => rfl)).squeeze S64x512 squeezes_S1x64x512_S64x512
abbrev gSlot (o : Fin 8) : Memref sig .tc .vmem S64x512 .f32 := (gM.slice (slotR o) (fun _ => rfl)).squeeze S64x512 squeezes_S1x64x512_S64x512

/-- The elements of a slot of the send buffer, as the copies name it; -/
theorem sSlot_set (o : Fin 8) : (sSlot o).view.set = slotSet o := by
  show ((View.whole cc0_scratch1).slice (slotR o) |>.reshape S64x512 _).set = _
  rw [View.set_reshape, View.set_slice_whole]; rfl
/-- and of the gather buffer. -/
theorem gSlot_set (o : Fin 8) : (gSlot o).view.set = slotSet o := by
  show ((View.whole cc0_scratch2).slice (slotR o) |>.reshape S64x512 _).set = _
  rw [View.set_reshape, View.set_slice_whole]; rfl

/-- Two slots share no element. -/
theorem slot_disjoint (o o' : Fin 8) (h : o ≠ o') : Disjoint (slotSet o) (slotSet o') :=
  Ring.lead_disjoint (s := S8x64x512) (0 : Fin 3) 1 (fun o : Fin 8 => ![o.val, 0, 0]) S1x64x512.size inbG
    (fun b => (Nat.one_mul _).symm) rfl o o' h
/-- The eight slots are the whole buffer. -/
theorem slot_cover : Finset.univ.biUnion slotSet = Finset.univ :=
  Ring.lead_cover (s := S8x64x512) (0 : Fin 3) 1 (fun o : Fin 8 => ![o.val, 0, 0]) S1x64x512.size inbG
    (fun b => (Nat.one_mul _).symm) (by decide) rfl (by decide) rfl

/-- An element lies in the slot that its leading coordinate names. -/
theorem mem_slot {o : Fin 8} {i : S8x64x512.Idx} : i ∈ slotSet o ↔ i 0 = o := by
  unfold slotSet
  rw [Rect.mem_set_unit]
  constructor
  · intro h
    have := h 0
    apply Fin.ext
    have h1 : o.val ≤ (i 0).val := this.1
    have h2 : (i 0).val < o.val + 1 := this.2
    omega
  · rintro rfl a
    fin_cases a
    · exact ⟨Nat.le_refl _, Nat.lt_succ_self _⟩
    · exact ⟨Nat.zero_le _, by have := (i 1).isLt; show (i 1).val < 0 + 64; simpa using this⟩
    · exact ⟨Nat.zero_le _, by have := (i 2).isLt; show (i 2).val < 0 + 512; simpa using this⟩

abbrev barS : Sem sig := (SemArray.scalar (sig.barrier 0 rfl) : Sems sig S_).sem
/-- Send semaphore `o` and receive semaphore `o`, as the program names them. -/
abbrev sendS (o : Fin 8) : DmaSem sig := ((cc0_scratch3.slice (Rect.unit (s := S8) ![o.val] S1.size (inbS o))).squeeze S_ squeezes_S1_S_).sem
abbrev recvS (o : Fin 8) : DmaSem sig := ((cc0_scratch4.slice (Rect.unit (s := S8) ![o.val] S1.size (inbS o))).squeeze S_ squeezes_S1_S_).sem

/-- The number of send semaphore `o` among all of them; -/
theorem sendS_val (o : Fin 8) : (sendS o).val = 5 + o.val := by fin_cases o <;> rfl
/-- and of receive semaphore `o`. -/
theorem recvS_val (o : Fin 8) : (recvS o).val = 13 + o.val := by fin_cases o <;> rfl

abbrev barCell (c : Dev nD) : GSem nD τ sig := ((c : Thread nD τ), .reg barS)
abbrev sendCell (c : Dev nD) (o : Fin 8) : GSem nD τ sig := ((c : Thread nD τ), .dma (sendS o))
abbrev recvCell (c : Dev nD) (o : Fin 8) : GSem nD τ sig := ((c : Thread nD τ), .dma (recvS o))

/-- The kernel's own scoped semaphores: the eight send ones and the eight receive ones; -/
abbrev osem : Fin 8 ⊕ Fin 8 → SemLoc sig := fun | .inl o => .dma (sendS o) | .inr o => .dma (recvS o)
/-- and the runtime's barrier semaphore beside them. -/
abbrev csem : Unit ⊕ (Fin 8 ⊕ Fin 8) → SemLoc sig := fun | .inl _ => .reg barS | .inr k => osem k
abbrev CK : Type := Unit ⊕ (Fin 8 ⊕ Fin 8)
abbrev kcell (ck : Dev nD × CK) : GSem nD τ sig := ((ck.1 : Thread nD τ), csem ck.2)

/-- What one slot's copy is worth on a semaphore. -/
abbrev N : ℕ := (gSlot 0).view.dmaCredit
/-- A slot's copy is worth something. -/
theorem N_pos : 0 < N := View.dmaCredit_pos _ (by decide)

/-! ## Contents -/

/-- The staged inputs of device `c`. -/
def xIn (c : Dev nD) : (cc0_stg0_0 : Ref sig .tc).ty.Contents (Elt F) := (win0_0.blk (0 : Fin 1)).view.read (Elt F) ((s₀ m ρ).mem ((c : Thread nD τ).loc main_arg0))
def rIn (c : Dev nD) : (cc0_stg1_0 : Ref sig .tc).ty.Contents (Elt F) := (win0_1.blk (0 : Fin 1)).view.read (Elt F) ((s₀ m ρ).mem ((c : Thread nD τ).loc main_arg1))
def iIn (c : Dev nD) : (cc0_stg2_0 : Ref sig .tc).ty.Contents (Elt F) := (win0_2.blk (0 : Fin 1)).view.read (Elt F) ((s₀ m ρ).mem ((c : Thread nD τ).loc main_arg2))
def eIn (c : Dev nD) : (cc0_stg3_0 : Ref sig .tc).ty.Contents (Elt F) := (win0_3.blk (0 : Fin 1)).view.read (Elt F) ((s₀ m ρ).mem ((c : Thread nD τ).loc main_arg3))

abbrev colR0 : Rect S512x2 := Rect.unit (s := S512x2) ![0, 0] S512x1.size inb_S512x2_S512x1_0_0
abbrev colR1 : Rect S512x2 := Rect.unit (s := S512x2) ![0, 1] S512x1.size inb_S512x2_S512x1_0_1
abbrev expR0 : Rect S2x256x512 := Rect.unit (s := S2x256x512) ![0, 0, 0] S1x256x512.size inb_S2x256x512_S1x256x512_0_0_0
abbrev expR1 : Rect S2x256x512 := Rect.unit (s := S2x256x512) ![1, 0, 0] S1x256x512.size inb_S2x256x512_S1x256x512_1_0_0

/-- The two columns of the routing table and the device's two expert matrices, as loaded. -/
abbrev col0 (c : Dev nD) : Vec F S512x1 .i32 := iM.view.readAt (Elt F) colR0.toLoadRect (iIn m ρ c)
abbrev col1 (c : Dev nD) : Vec F S512x1 .i32 := iM.view.readAt (Elt F) colR1.toLoadRect (iIn m ρ c)
def exp0 (c : Dev nD) : Vec F S1x256x512 .f32 := eM.view.readAt (Elt F) expR0.toLoadRect (eIn m ρ c)
def exp1 (c : Dev nD) : Vec F S1x256x512 .f32 := eM.view.readAt (Elt F) expR1.toLoadRect (eIn m ρ c)

/-- The device's position on the mesh's axis, as a word. -/
abbrev pos (c : Dev nD) : BitVec 32 := Scalar.remsi (Scalar.divsi (Dev.word c) 1#32) 8#32

/-- The tokens scaled by their weight for the device's first and second expert. -/
abbrev scaled0 (c : Dev nD) : FVec F S1x512x256 .f32 :=
  k0_pay8 (pos c) (k0_pay1 (xIn m ρ c)) (k0_pay3 (col0 m ρ c)) (k0_pay4 (col1 m ρ c))
    (k0_pay5 (xIn m ρ c) (rIn m ρ c) (col0 m ρ c)) (k0_pay6 (xIn m ρ c) (rIn m ρ c) (col1 m ρ c))
    (k0_pay7 (xIn m ρ c) (rIn m ρ c) (col0 m ρ c) (col1 m ρ c)) 2#32
abbrev scaled1 (c : Dev nD) : FVec F S1x512x256 .f32 :=
  k0_pay9 (pos c) (k0_pay1 (xIn m ρ c)) (k0_pay3 (col0 m ρ c)) (k0_pay4 (col1 m ρ c))
    (k0_pay5 (xIn m ρ c) (rIn m ρ c) (col0 m ρ c)) (k0_pay6 (xIn m ρ c) (rIn m ρ c) (col1 m ρ c))
    (k0_pay7 (xIn m ρ c) (rIn m ρ c) (col0 m ρ c) (col1 m ρ c))

/-- An index with its leading coordinate put to zero. -/
def lead0 (i : S8x64x512.Idx) : S1x64x512.Idx := fun | 0 => (0 : Fin 1) | 1 => i 1 | 2 => i 2
def leadW (i : S2x512x256.Idx) : S1x512x256.Idx := fun | 0 => (0 : Fin 1) | 1 => i 1 | 2 => i 2

/-- The scaled tokens as they lie in their buffer. -/
def scaled (c : Dev nD) : (cc0_scratch0 : Ref sig .tc).ty.Contents (Elt F) :=
  fun i => if (i 0).val = 0 then scaled0 m ρ c (leadW i) else scaled1 m ρ c (leadW i)

/-- Row `r` of row block `t`, of expert `e`. -/
def rowIx (e : Fin 2) (t : Dev nD) (x : S1x64x256.Idx) : S2x512x256.Idx
  | 0 => e
  | 1 => (⟨64 * t.val + (x 1).val, by have := t.isLt; have : (x 1).val < 64 := (x 1).isLt; simp only [nD] at *; show _ < 512; omega⟩ : Fin 512)
  | 2 => x 2

/-- Row block `t` of the scaled tokens of device `c`, for its expert `e`. -/
def rows (e : Fin 2) (c t : Dev nD) : Vec F S1x64x256 .f32 := fun x => scaled m ρ c (rowIx e t x)

/-- Device `c`'s partial product for row block `t`. -/
def part (c t : Dev nD) : FVec F S1x64x512 .f32 := k0_pay10 (rows m ρ 0 c t) (rows m ρ 1 c t) (exp0 m ρ c) (exp1 m ρ c)

/-- What device `c` sends: in slot `o` its partial product for the device `o` places after it. -/
def sent (c : Dev nD) : S8x64x512.Idx → Elt F .f32 := fun i => part m ρ c (fwd c (i 0).val) (lead0 i)
/-- What device `c` gathers: in slot `o` the partial product, for `c`'s own row block, of the device `o` places before it. -/
def gath (c : Dev nD) : S8x64x512.Idx → Elt F .f32 := fun i => part m ρ (bwd c (i 0).val) c (lead0 i)

/-- What device `c` sends in a slot is what the device that many places on gathers in it. -/
theorem sent_eq_gath (c : Dev nD) (o : Fin 8) (i : S8x64x512.Idx) (h : i ∈ slotSet o) : sent m ρ c i = gath m ρ (fwd c o.val) i := by
  have h' := mem_slot.mp h
  unfold sent gath
  rw [h', bwd_fwd]

/-- The result on device `c`: the sum of the gathered blocks. -/
def outAt (c : Dev nD) : (cc0_stg4_0 : Ref sig .tc).ty.Contents (Elt F) := k0_pay18 (gath m ρ c)

/-! ## Slots as resources -/

/-- Slot `o` of device `c`'s send buffer, held with contents `f`; -/
def sPts (c : Dev nD) (o : Fin 8) (f : Buf (Elt F) ((c : Thread nD τ).loc cc0_scratch1)) : sProp 𝕄 :=
  ((c : Thread nD τ).loc cc0_scratch1) ↦[slotSet o]{fullShare} f
/-- and of its gather buffer. -/
def gPts (c : Dev nD) (o : Fin 8) (f : Buf (Elt F) ((c : Thread nD τ).loc cc0_scratch2)) : sProp 𝕄 :=
  ((c : Thread nD τ).loc cc0_scratch2) ↦[slotSet o]{fullShare} f

omit [FloatOps F] in
instance sPts_storable (c : Dev nD) (o) (f) : BI.Storable (upEmb : UEmb _ 𝕄) (sPts (F := F) c o f) := by unfold sPts; infer_instance
omit [FloatOps F] in
instance gPts_storable (c : Dev nD) (o) (f) : BI.Storable (upEmb : UEmb _ 𝕄) (gPts (F := F) c o f) := by unfold gPts; infer_instance

omit [FloatOps F] in
/-- The send buffer is its eight slots; -/
theorem sPts_split (c : Dev nD) (f : Buf (Elt F) ((c : Thread nD τ).loc cc0_scratch1)) :
    (((c : Thread nD τ).loc cc0_scratch1) ↦{fullShare} f : sProp 𝕄) = bigSep Finset.univ fun o : Fin 8 => sPts c o f :=
  Ring.pointsTo_blocks (ℓ := (c : Thread nD τ).loc cc0_scratch1) slotSet slot_disjoint slot_cover f
omit [FloatOps F] in
/-- so is the gather buffer. -/
theorem gPts_split (c : Dev nD) (f : Buf (Elt F) ((c : Thread nD τ).loc cc0_scratch2)) :
    (((c : Thread nD τ).loc cc0_scratch2) ↦{fullShare} f : sProp 𝕄) = bigSep Finset.univ fun o : Fin 8 => gPts c o f :=
  Ring.pointsTo_blocks (ℓ := (c : Thread nD τ).loc cc0_scratch2) slotSet slot_disjoint slot_cover f

/-! ## The schedule -/

/-- What the device `d + 1` places after `c` hands `c` through `c`'s barrier cell: slot `d + 1` of its gather buffer. -/
def barPay (c : Dev nD) (d : Fin 7) : sProp 𝕄 := iprop(∃ f, gPts (fwd c (d.val + 1)) (off d) f)

/-- The duties of a semaphore in the one round: the barrier's seven, one of each send and each receive semaphore but slot 0's. -/
def dutiesAt : SemLoc sig → Finset (Fin 7)
  | .reg s => if s = barS then Finset.univ else ∅
  | .dma q => if (6 ≤ q.val ∧ q.val ≤ 12) ∨ 14 ≤ q.val then {0} else ∅

set_option backward.proofsInPublic true in
/-- What the payer of a duty hands over on device `c`'s semaphore. -/
def payAt (c : Dev nD) : SemLoc sig → Fin 7 → sProp 𝕄
  | .reg s, d => if s = barS then barPay c d else iprop(emp)
  | .dma q, _ =>
    if h : 14 ≤ q.val then gPts c ⟨q.val - 13, by have : q.val < 21 := q.isLt; omega⟩ (gath m ρ c)
    else if h' : 6 ≤ q.val ∧ q.val ≤ 12 then sPts c ⟨q.val - 5, by omega⟩ (sent m ρ c)
    else iprop(emp)

/-- One round, round 0. -/
def ringRd : Rounds.Schedule (GSem nD τ sig) (Fin 7) 𝕄 where
  duties g r := if r = 0 ∧ g.1.2 = .tc then dutiesAt g.2 else ∅
  unitless _ := False
  amount g _ _ := match g.2 with | .reg _ => 1 | .dma _ => N
  payload g _ d := payAt m ρ g.1.1 g.2 d
  amount_pos g _ _ _ := by
    rcases g with ⟨t, s | q⟩
    · exact Nat.one_pos
    · exact N_pos

instance ringRd_payload_storable (g : GSem nD τ sig) (r : ℕ) (d : Fin 7) :
    BI.Storable (upEmb : UEmb _ 𝕄) ((ringRd (F := F) m ρ).payload g r d) := by
  show BI.Storable upEmb (payAt m ρ g.1.1 g.2 d)
  rcases g with ⟨t, s | q⟩
  · unfold payAt barPay; dsimp only; split <;> infer_instance
  · unfold payAt; dsimp only; (repeat' split) <;> infer_instance

section Sched
variable (c : Dev nD)

omit [FloatOps F] in
/-- The offset that `i` names is `i + 1`. -/
theorem off_val (i : Fin 7) : (off i).val = i.val + 1 := rfl

/-- A barrier cell has seven duties; -/
theorem duties_bar : (ringRd (F := F) m ρ).duties (barCell c) 0 = Finset.univ := by
  dsimp only [ringRd, dutiesAt]; rw [if_pos ⟨rfl, rfl⟩]; exact if_pos rfl
/-- a send cell of an offset has one; -/
theorem duties_send (i : Fin 7) : (ringRd (F := F) m ρ).duties (sendCell c (off i)) 0 = {0} := by
  dsimp only [ringRd, dutiesAt]; rw [if_pos ⟨rfl, rfl⟩]
  exact if_pos (.inl (by rw [sendS_val, off_val]; have := i.isLt; omega))
/-- so has a receive cell of an offset; -/
theorem duties_recv (i : Fin 7) : (ringRd (F := F) m ρ).duties (recvCell c (off i)) 0 = {0} := by
  dsimp only [ringRd, dutiesAt]; rw [if_pos ⟨rfl, rfl⟩]
  exact if_pos (.inr (by rw [recvS_val, off_val]; have := i.isLt; omega))
/-- no cell has any after round 0; -/
theorem duties_later (g : GSem nD τ sig) : ∀ r, 1 ≤ r → (ringRd (F := F) m ρ).duties g r = ∅ :=
  fun r hr => by dsimp only [ringRd]; rw [if_neg fun h => by omega]
/-- the send cell of slot 0 has none at all; -/
theorem duties_send0 : ∀ r, 0 ≤ r → (ringRd (F := F) m ρ).duties (sendCell c 0) r = ∅ := fun r _ => by
  have hv : (sendS 0).val = 5 := sendS_val 0
  dsimp only [ringRd, dutiesAt]; split
  · exact if_neg (by omega)
  · rfl
/-- nor has the receive cell of slot 0. -/
theorem duties_recv0 : ∀ r, 0 ≤ r → (ringRd (F := F) m ρ).duties (recvCell c 0) r = ∅ := fun r _ => by
  have hv : (recvS 0).val = 13 := recvS_val 0
  dsimp only [ringRd, dutiesAt]; split
  · exact if_neg (by omega)
  · rfl

/-- A signal is one unit; -/
theorem amount_bar (d : Fin 7) : (ringRd (F := F) m ρ).amount (barCell c) 0 d = 1 := rfl
/-- a copy pays its send cell a slot's worth; -/
theorem amount_send (o : Fin 8) (d : Fin 7) : (ringRd (F := F) m ρ).amount (sendCell c o) 0 d = N := rfl
/-- and its receive cell as much. -/
theorem amount_recv (o : Fin 8) (d : Fin 7) : (ringRd (F := F) m ρ).amount (recvCell c o) 0 d = N := rfl

/-- The barrier wait is for seven units; -/
theorem expect_bar : (ringRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- a send wait for one slot's worth; -/
theorem expect_send (i : Fin 7) : (ringRd (F := F) m ρ).expect (sendCell c (off i)) 0 = N := by
  unfold Schedule.expect Schedule.amountOf; rw [duties_send, Finset.sum_singleton, amount_send]
/-- a receive wait likewise. -/
theorem expect_recv (i : Fin 7) : (ringRd (F := F) m ρ).expect (recvCell c (off i)) 0 = N := by
  unfold Schedule.expect Schedule.amountOf; rw [duties_recv, Finset.sum_singleton, amount_recv]

/-- A signal hands over the signaller's slot; -/
theorem payload_bar (d : Fin 7) : (ringRd (F := F) m ρ).payload (barCell c) 0 d = barPay c d := by
  dsimp only [ringRd, payAt]; exact if_pos rfl
/-- a copy that has been read gives back the slot sent; -/
theorem payload_send (i : Fin 7) (d : Fin 7) : (ringRd (F := F) m ρ).payload (sendCell c (off i)) 0 d = sPts c (off i) (sent m ρ c) := by
  have hv := sendS_val (off i); have ho := off_val i; have hi := i.isLt
  dsimp only [ringRd, payAt]
  rw [dif_neg (by omega), dif_pos (by omega)]
  congr 1; apply Fin.ext; show (sendS (off i)).val - 5 = _; omega
/-- a copy that has landed hands over the gathered slot with its contents. -/
theorem payload_recv (i : Fin 7) (d : Fin 7) : (ringRd (F := F) m ρ).payload (recvCell c (off i)) 0 d = gPts c (off i) (gath m ρ c) := by
  have hv := recvS_val (off i); have ho := off_val i; have hi := i.isLt
  dsimp only [ringRd, payAt]
  rw [dif_pos (by omega)]
  congr 1; apply Fin.ext; show (recvS (off i)).val - 13 = _; omega

/-- What the barrier wait hands over: each other device's slot for `c`. -/
theorem rest_bar : bigSep ((ringRd (F := F) m ρ).duties (barCell c) 0 \ ∅) (fun d => (ringRd (F := F) m ρ).payload (barCell c) 0 d)
    = bigSep Finset.univ fun d : Fin 7 => barPay c d := by
  rw [Finset.sdiff_empty, duties_bar]; exact bigSep_congr fun d _ => payload_bar m ρ c d
/-- What a send wait hands over: the slot sent. -/
theorem rest_send (i : Fin 7) : bigSep ((ringRd (F := F) m ρ).duties (sendCell c (off i)) 0 \ ∅) (fun d => (ringRd (F := F) m ρ).payload (sendCell c (off i)) 0 d)
    = sPts c (off i) (sent m ρ c) := by
  rw [Finset.sdiff_empty, duties_send, bigSep_singleton, payload_send]
/-- What a receive wait hands over: the gathered slot. -/
theorem rest_recv (i : Fin 7) : bigSep ((ringRd (F := F) m ρ).duties (recvCell c (off i)) 0 \ ∅) (fun d => (ringRd (F := F) m ρ).payload (recvCell c (off i)) 0 d)
    = gPts c (off i) (gath m ρ c) := by
  rw [Finset.sdiff_empty, duties_recv, bigSep_singleton, payload_recv]

end Sched

/-! ## What each device owes at launch; the levels -/

/-- The offset `7 - n`, at which `n` transfers are left to make after this one. -/
abbrev left (n : ℕ) : Fin 7 := ⟨6 - n, by omega⟩

/-- What a device still owes the receive cells when its last `n` transfers are left, the next one the last summand; -/
def owedR (c : Dev nD) : ℕ → CellTallies nD τ sig Unit
  | 0 => 0
  | n + 1 => owedR c n + tallyAt (recvCell (fwd c ((left n).val + 1)) (off (left n))) () N
/-- and in all when its last `n` signals are left. -/
def owedB (c : Dev nD) : ℕ → CellTallies nD τ sig Unit
  | 0 => owedR c 7
  | n + 1 => owedB c n + tallyAt (barCell (fwd c ((left n).val + 1))) () 1
/-- What a device owes at launch. -/
def O₀ (c : Dev nD) : CellTallies nD τ sig Unit := owedB c 7

/-- The compute core's cells carry a level. -/
def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 14 ≤ q.val then 2 else 0

/-- Only the compute core's cells carry a level; -/
theorem L_of_ne (g : GSem nD τ sig) (h : g.1.2 ≠ .tc) : L g = ∅ := if_neg h
/-- each of those carries one. -/
theorem L_tc (c : Dev nD) (sm : SemLoc sig) : L ((c : Thread nD τ), sm) = {()} := if_pos rfl
/-- The receive cells of the offsets are at level 2. -/
theorem lv_recv (c : Dev nD) (i : Fin 7) (u : Unit) : lv (recvCell c (off i)) u = 2 :=
  if_pos (by rw [recvS_val, off_val]; omega)

/-- What the copies still owe lies above level 1; -/
theorem owedR_pos {c : Dev nD} {g : GSem nD τ sig} {u : Unit} : ∀ n, 0 < owedR c n g u → () ∈ L g ∧ 1 < lv g u
  | 0, h => absurd h (Nat.lt_irrefl 0)
  | n + 1, h => by
    unfold owedR at h
    rw [Pi.add_apply, Finsupp.add_apply, tallyAt_apply] at h
    by_cases hg : g = recvCell (fwd c ((left n).val + 1)) (off (left n)) ∧ u = ()
    · rw [hg.1, lv_recv, L_tc]; exact ⟨Finset.mem_singleton_self _, by decide⟩
    · rw [if_neg hg] at h; exact owedR_pos n h
/-- what the signals and copies together owe lies above level 0. -/
theorem owedB_pos {c : Dev nD} {g : GSem nD τ sig} {u : Unit} : ∀ n, 0 < owedB c n g u → () ∈ L g ∧ 0 < lv g u
  | 0, h => ⟨(owedR_pos 7 h).1, Nat.lt_of_succ_lt (owedR_pos 7 h).2⟩
  | n + 1, h => by
    unfold owedB at h
    rw [Pi.add_apply, Finsupp.add_apply, tallyAt_apply] at h
    by_cases hg : g = barCell (fwd c ((left n).val + 1)) ∧ u = ()
    · rw [hg.1, L_tc]; exact ⟨Finset.mem_singleton_self _, Nat.one_pos⟩
    · rw [if_neg hg] at h; exact owedB_pos n h

omit [FloatOps F] in
/-- A staging wait is below everything a device owes. -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (owedB_pos 7 hg).1)
      (fun p hp => by rw [Finset.mem_singleton.mp hp]; exact Nat.le_of_eq (if_neg (by show ¬ 14 ≤ q.val; omega)))
      (fun g u hg => (owedB_pos 7 hg).2)
  · rw [MayWait_zero]; iintro -; iempintro

omit [FloatOps F] in
/-- At its barrier wait a device owes receive credits only, all above its barrier cell. -/
theorem mayWait_bar (c : Dev nD) : (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => (owedR_pos 7 hg).1)
    (fun p hp => by rw [Finset.mem_singleton.mp hp]; exact Nat.le_refl 1)
    (fun g u hg => (owedR_pos 7 hg).2)

end Cert.KernelIdealProof

end
-- ==== Proof.Access.lean ====
/-
# What the body's loads and stores read and leave

Each access of the body as a function of the contents named in `Proto`: a load of a row block of the scaled tokens, the
two stores that fill their buffer, a store into one slot, a copy from a slot of the send buffer to the same slot of the
gather buffer, and the load of the whole gather buffer.
-/
module

public import proofs.«01_k».proof.Proof.Proto

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The offset zero on two axes; -/
theorem hz2 : (![0, 0] : Fin 2 → Nat) = fun _ => 0 := funext fun a => by fin_cases a <;> rfl
/-- and on three. -/
theorem hz3 : (![0, 0, 0] : Fin 3 → Nat) = fun _ => 0 := funext fun a => by fin_cases a <;> rfl

/-! ## Whole loads and the last store -/

/-- The load of the tokens is all of them; -/
theorem read_x (c : Dev nD) :
    xM.view.readAt (Elt F) (Rect.unit (s := S512x256) ![0, 0] S512x256.size inb_S512x256_S512x256_0_0).toLoadRect (xIn m ρ c) = xIn m ρ c :=
  Memref.readAt_unit_zero (Elt F) cc0_stg0_0 hz2 _ _
/-- of the router, all of it; -/
theorem read_r (c : Dev nD) :
    rM.view.readAt (Elt F) (Rect.unit (s := S256x16) ![0, 0] S256x16.size inb_S256x16_S256x16_0_0).toLoadRect (rIn m ρ c) = rIn m ρ c :=
  Memref.readAt_unit_zero (Elt F) cc0_stg1_0 hz2 _ _
/-- of the gather buffer, all of it; -/
theorem read_gath (c : Dev nD) :
    gM.view.readAt (Elt F) (Rect.unit (s := S8x64x512) ![0, 0, 0] S8x64x512.size inb_S8x64x512_S8x64x512_0_0_0).toLoadRect (gath m ρ c) = gath m ρ c :=
  Memref.readAt_unit_zero (Elt F) cc0_scratch2 hz3 _ _
/-- and the last store leaves what it stores. -/
theorem write_out (f w : (cc0_stg4_0 : Ref sig .tc).ty.Contents (Elt F)) :
    ((oM : Memref sig .tc .vmem S64x512 .f32).access (Rect.unit (s := S64x512) ![0, 0] S64x512.size inb_S64x512_S64x512_0_0) : View sig .tc _ _ _).write (Elt F) f w Finset.univ = w :=
  Memref.write_access_unit_zero_univ (Elt F) cc0_stg4_0 hz2 _ f w

/-! ## The scaled tokens -/

abbrev tokR0 : Rect S2x512x256 := Rect.unit (s := S2x512x256) ![0, 0, 0] S1x512x256.size inb_S2x512x256_S1x512x256_0_0_0
abbrev tokR1 : Rect S2x512x256 := Rect.unit (s := S2x512x256) ![1, 0, 0] S1x512x256.size inb_S2x512x256_S1x512x256_1_0_0

/-- Where the first store puts an element: the half of the first expert; -/
theorem tok_emb0 (i : S2x512x256.Idx) (h : (i 0).val = 0) : (wM.access tokR0).emb (leadW i) = i := by
  funext a; apply Fin.ext
  fin_cases a
  · exact h.symm
  · show 0 + 1 * (i 1).val = (i 1).val; omega
  · show 0 + 1 * (i 2).val = (i 2).val; omega
/-- and the second store: the half of the second. -/
theorem tok_emb1 (i : S2x512x256.Idx) (h : (i 0).val = 1) : (wM.access tokR1).emb (leadW i) = i := by
  funext a; apply Fin.ext
  fin_cases a
  · exact h.symm
  · show 0 + 1 * (i 1).val = (i 1).val; omega
  · show 0 + 1 * (i 2).val = (i 2).val; omega
/-- The second store leaves the first half alone. -/
theorem tok_not1 (i : S2x512x256.Idx) (h : (i 0).val = 0) : i ∉ (wM.access tokR1).setOn Finset.univ := by
  show i ∉ (wM.access tokR1).set
  rw [show (wM.access tokR1).set = tokR1.set from View.set_slice_whole _ _]
  intro hi
  have h1 : 1 ≤ (i 0).val := ((Rect.mem_set_unit.mp hi) 0).1
  omega

/-- The two stores fill the buffer. -/
theorem write_scaled (c : Dev nD) (f : (cc0_scratch0 : Ref sig .tc).ty.Contents (Elt F)) :
    (wM.access tokR1).write (Elt F) ((wM.access tokR0).write (Elt F) f (scaled0 m ρ c) Finset.univ) (scaled1 m ρ c) Finset.univ = scaled m ρ c := by
  funext i
  have hi : (i 0).val < 2 := (i 0).isLt
  rcases (show (i 0).val = 0 ∨ (i 0).val = 1 by omega) with h | h
  · rw [View.write_of_not_mem _ _ _ (tok_not1 i h)]
    have e := View.write_emb_of_mem (v := wM.access tokR0) (Val := Elt F) f (scaled0 m ρ c) (M := Finset.univ) (x := leadW i) (Finset.mem_univ _)
    rw [tok_emb0 i h] at e
    rw [e]; unfold scaled; rw [if_pos h]; rfl
  · have e := View.write_emb_of_mem (v := wM.access tokR1) (Val := Elt F) ((wM.access tokR0).write (Elt F) f (scaled0 m ρ c) Finset.univ)
      (scaled1 m ρ c) (M := Finset.univ) (x := leadW i) (Finset.mem_univ _)
    rw [tok_emb1 i h] at e
    rw [e]; unfold scaled; rw [if_neg (by omega)]; rfl

/-- A load of row block `t` at expert `e`. -/
theorem read_rows (e : Fin 2) (c t : Dev nD) (off : Fin 3 → ℕ) (h : off = ![e.val, 64 * t.val, 0])
    (inb : ∀ a, off a + S1x64x256.size a ≤ S2x512x256.size a) :
    wM.view.readAt (Elt F) (Rect.unit (s := S2x512x256) off S1x64x256.size inb).toLoadRect (scaled m ρ c) = rows m ρ e c t := by
  subst h
  funext x
  show scaled m ρ c _ = scaled m ρ c _
  congr 1
  funext a; apply Fin.ext
  fin_cases a
  · have h0 : (x 0).val < 1 := (x 0).isLt
    show e.val + 1 * (x 0).val = e.val; omega
  · show 64 * t.val + 1 * (x 1).val = 64 * t.val + (x 1).val; omega
  · show 0 + 1 * (x 2).val = (x 2).val; omega

/-! ## Slots -/

/-- Where a store into a slot puts an element. -/
theorem slot_emb (o : Fin 8) (i : S8x64x512.Idx) (h : i ∈ slotSet o) : (slotR o).emb (lead0 i) = i := by
  have h' : i 0 = o := mem_slot.mp h
  funext a; apply Fin.ext
  fin_cases a
  · rw [← h']; rfl
  · show 0 + 1 * (i 1).val = (i 1).val; omega
  · show 0 + 1 * (i 2).val = (i 2).val; omega

/-- A store into slot `o` of the send buffer: the partial product for the device `o` places on. -/
theorem store_sent (c : Dev nD) (o : Fin 8) (f : (cc0_scratch1 : Ref sig .tc).ty.Contents (Elt F)) (i : S8x64x512.Idx) (h : i ∈ slotSet o) :
    (sM.access (slotR o)).write (Elt F) f (part m ρ c (fwd c o.val)) Finset.univ i = sent m ρ c i := by
  have e := View.write_emb_of_mem (v := sM.access (slotR o)) (Val := Elt F) f (part m ρ c (fwd c o.val)) (M := Finset.univ) (x := lead0 i) (Finset.mem_univ _)
  rw [show (sM.access (slotR o)).emb (lead0 i) = i from slot_emb o i h] at e
  rw [e]; unfold sent; rw [mem_slot.mp h]; rfl

/-- The store into slot 0 of the gather buffer: the device's own partial product. -/
theorem store_gath (c : Dev nD) (f : (cc0_scratch2 : Ref sig .tc).ty.Contents (Elt F)) (i : S8x64x512.Idx) (h : i ∈ slotSet 0) :
    (gM.access (slotR 0)).write (Elt F) f (part m ρ c c) Finset.univ i = gath m ρ c i := by
  have e := View.write_emb_of_mem (v := gM.access (slotR 0)) (Val := Elt F) f (part m ρ c c) (M := Finset.univ) (x := lead0 i) (Finset.mem_univ _)
  rw [show (gM.access (slotR 0)).emb (lead0 i) = i from slot_emb 0 i h] at e
  rw [e]; unfold gath; rw [mem_slot.mp h]
  rw [show bwd c (0 : Fin 8).val = c from bwd_zero c]; rfl

/-- A copy of slot `o` leaves in the destination's slot `o` what the source's held. -/
theorem copy_slot (o : Fin 8) (fd : (cc0_scratch2 : Ref sig .tc).ty.Contents (Elt F)) (fs : (cc0_scratch1 : Ref sig .tc).ty.Contents (Elt F))
    (i : S8x64x512.Idx) (h : i ∈ slotSet o) :
    (gSlot o).view.write (Elt F) fd ((sSlot o).view.read (Elt F) fs) Finset.univ i = fs i := by
  rw [← gSlot_set o] at h
  obtain ⟨y, -, rfl⟩ := Finset.mem_map.mp h
  rw [View.write_emb_of_mem _ _ (Finset.mem_univ _)]
  rfl

end Cert.KernelIdealProof

end
-- ==== Proof.Steps.lean ====
/-
# The exchange's steps, each stated once for every offset

A signal to another device's barrier; the whole of one offset's work between the barrier and the waits (load the rows,
multiply, store into the send buffer's slot, start the copy); the wait for a sent block; the wait for a received block.
-/
module

public import proofs.«01_k».proof.Proof.Access

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records every device reads: all the cells' invariants, and that each has reached round 0 -/

variable (K : Dev nD × CK → ℕ)

def records : sProp 𝕄 :=
  iprop((bigSep Finset.univ fun ck : Dev nD × CK => cellInv ER (ringRd m ρ) (K ck) (kcell ck))
    ∗ (bigSep Finset.univ fun ck : Dev nD × CK => reached ER (kcell ck) 0))

instance records_persistent : BI.Persistent (records m ρ K) := by unfold records; infer_instance

/-- The records hold the invariant of every cell; -/
theorem records_inv (ck : Dev nD × CK) : records m ρ K ⊢ cellInv ER (ringRd m ρ) (K ck) (kcell ck) := by
  unfold records
  rw [bigSep_univ_at _ ck]
  iintro ⟨⟨H, -⟩, -⟩; iexact H
/-- and that every cell has reached round 0. -/
theorem records_reached (ck : Dev nD × CK) : records m ρ K ⊢ reached ER (kcell ck) 0 := by
  unfold records
  rw [bigSep_univ_at (fun ck : Dev nD × CK => reached ER (kcell ck) 0) ck]
  iintro ⟨-, ⟨H, -⟩⟩; iexact H

/-- A core's remaining debt, whatever it has waited on so far. -/
def ow (c : Dev nD) (O : CellTallies nD τ sig Unit) : sProp 𝕄 := iprop(∃ W, owes (c : Thread nD τ) O W)

abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The signal at offset `7 - n`: it pays that device's barrier duty with this device's slot for it. -/
theorem signal_step {α : Type} (c d : Dev nD) (n : ℕ) (hd : d = fwd c ((left n).val + 1)) {s : Sem sig} (hs : s = barS) {u : ℕ} (hu : 1 = u)
    {k : PUnit → Prog (TpuEff nD τ sig (Elt F) Λ₀ .tc) α} {Q : α → sProp 𝕄} :
    iprop(records m ρ K ∗ ow c (owedB c (n + 1)) ∗ dutyTok ER (barCell (fwd c ((left n).val + 1))) 0 (left n).rev
        ∗ (∃ f, gPts c (off (left n).rev) f))
      ⊢ iprop((ow c (owedB c n) -∗ wpB c (k ⟨⟩) Q) -∗ wpB c (.op (.semSignal (d : Thread nD τ) s u) k) Q) := by
  subst hd; subst hs; subst hu
  unfold ow
  iintro ⟨#HR, ⟨%W, HO⟩, Ht, Hg⟩ Hk
  iapply (Rounds.wp_signal 𝒱₀ ER (ringRd m ρ) (c : Thread nD τ) none (dst := ((fwd c ((left n).val + 1) : Dev nD) : Thread nD τ))
      (κ := K (fwd c ((left n).val + 1), .inl ()))
      (d := (left n).rev) (by rw [duties_bar]; exact Finset.mem_univ _) (amount_bar m ρ _ _) () (owedB c n) rfl) $$ [HO Ht Hg]
  · isplitr; · iapply (records_inv m ρ K (fwd c ((left n).val + 1), .inl ())); iexact HR
    isplitl [HO]; · iexact HO
    isplitl [Ht]; · iexact Ht
    isplitl [Hg]
    · rw [payload_bar]; unfold barPay; rw [fwd_rev]; iexact Hg
    · iapply (records_reached m ρ K (fwd c ((left n).val + 1), .inl ())); iexact HR
  iintro HO; iapply Hk; iexists W; iexact HO

/-- The wait on the device's own barrier: every other device's slot for it. -/
theorem barrier_step {α : Type} (c : Dev nD) {s : Sem sig} (hs : s = barS) {u : ℕ} (hu : 7 = u)
    {k : PUnit → Prog (TpuEff nD τ sig (Elt F) Λ₀ .tc) α} {Q : α → sProp 𝕄} :
    iprop(records m ρ K ∗ levAts L lv ∗ ow c (owedB c 0) ∗ cred (tallyAt (barCell c) () 7) ∗ atPos ER (barCell c) 0 ∅ 0)
      ⊢ iprop(((ow c (owedR c 7) ∗ semVal (barCell c) 0 ∗ bigSep Finset.univ fun d : Fin 7 => barPay c d) -∗ wpB c (k ⟨⟩) Q)
        -∗ wpB c (.op (.semWait s u) k) Q) := by
  subst hs; subst hu
  unfold ow
  iintro ⟨#HR, #Hlev, ⟨%W, HO⟩, Hc, Hat⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owedR c 7) (W := W) (R := 0) (m := 0) (T := ∅)
      (by rw [expect_bar])) $$ [Hc HO Hat]
  · isplitr; · iapply (records_inv m ρ K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (ringRd m ρ) (Set.mem_univ (K (c, .inl ()))) (fun h => h) (R := 0 + 1) (duties_later m ρ (barCell c))) $$ [Hat] with Hz
  · isplitr; · iapply (records_inv m ρ K (c, .inl ())); iexact HR
    iexact Hat
  iapply Hk
  isplitl [HO]; · iexists _; iexact HO
  isplitl [Hz]; · iexact Hz
  iapply (Entails.of_eq (rest_bar m ρ c)); iexact Hpay

/-- The wait for the block sent at offset `i + 1`: its slot of the send buffer back, and the semaphore at zero. -/
theorem sent_step {α : Type} (c : Dev nD) (i : Fin 7) {q : DmaSem sig} (hq : q = sendS (off i)) {src dst : Memref sig .tc .vmem S64x512 .f32}
    (hdst : dst = sSlot (off i))
    {h₁ : src.view.WordExact} {h₂ : dst.view.WordExact} {k : PUnit → Prog (TpuEff nD τ sig (Elt F) Λ₀ .tc) α} {Q : α → sProp 𝕄} :
    iprop(records m ρ K ∗ ow c 0 ∗ cred (tallyAt (sendCell c (off i)) () N) ∗ atPos ER (sendCell c (off i)) 0 ∅ 0)
      ⊢ iprop(((ow c 0 ∗ semVal (sendCell c (off i)) 0 ∗ sPts c (off i) (sent m ρ c)) -∗ wpB c (k ⟨⟩) Q)
        -∗ wpB c (.op (.waitDma2 q src dst h₁ h₂) k) Q) := by
  subst hq; subst hdst
  have hN : (sSlot (off i)).view.dmaCredit = N := rfl
  unfold ow
  iintro ⟨#HR, ⟨%W, HO⟩, Hc, Hat⟩ Hk
  iapply (Rounds.wp_wait_rest_token 𝒱₀ ER (ringRd m ρ) (c : Thread nD τ) none (κ := K (c, .inr (.inl (off i))))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (records_inv m ρ K (c, .inr (.inl (off i)))); iexact HR
    isplitl [Hc]; · rw [hN]; iexact Hc
    isplitl [HO]; · iexact HO
    isplitr; · rw [MayWait_zero]; iempintro
    iexact Hat
  iintro ⟨HO, Hat, -, Hpay⟩
  imod (Rounds.cell_close ER (ringRd m ρ) (Set.mem_univ (K (c, .inr (.inl (off i))))) (fun h => h) (R := 0 + 1) (duties_later m ρ (sendCell c (off i)))) $$ [Hat] with Hz
  · isplitr; · iapply (records_inv m ρ K (c, .inr (.inl (off i)))); iexact HR
    iexact Hat
  iapply Hk
  isplitl [HO]; · iexists _; iexact HO
  isplitl [Hz]; · iexact Hz
  iapply (Entails.of_eq (rest_send m ρ c i)); iexact Hpay

/-- The wait for the block received at offset `i + 1`: its slot of the gather buffer, filled, and the semaphore at zero. -/
theorem recv_step {α : Type} (c : Dev nD) (i : Fin 7) {q : DmaSem sig} (hq : q = recvS (off i)) {src dst : Memref sig .tc .vmem S64x512 .f32}
    (hdst : dst = gSlot (off i))
    {h₁ : src.view.WordExact} {h₂ : dst.view.WordExact} {k : PUnit → Prog (TpuEff nD τ sig (Elt F) Λ₀ .tc) α} {Q : α → sProp 𝕄} :
    iprop(records m ρ K ∗ ow c 0 ∗ cred (tallyAt (recvCell c (off i)) () N) ∗ atPos ER (recvCell c (off i)) 0 ∅ 0)
      ⊢ iprop(((ow c 0 ∗ semVal (recvCell c (off i)) 0 ∗ gPts c (off i) (gath m ρ c)) -∗ wpB c (k ⟨⟩) Q)
        -∗ wpB c (.op (.waitDma2 q src dst h₁ h₂) k) Q) := by
  subst hq; subst hdst
  have hN : (gSlot (off i)).view.dmaCredit = N := rfl
  unfold ow
  iintro ⟨#HR, ⟨%W, HO⟩, Hc, Hat⟩ Hk
  iapply (Rounds.wp_wait_rest_token 𝒱₀ ER (ringRd m ρ) (c : Thread nD τ) none (κ := K (c, .inr (.inr (off i))))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (records_inv m ρ K (c, .inr (.inr (off i)))); iexact HR
    isplitl [Hc]; · rw [hN]; iexact Hc
    isplitl [HO]; · iexact HO
    isplitr; · rw [MayWait_zero]; iempintro
    iexact Hat
  iintro ⟨HO, Hat, -, Hpay⟩
  imod (Rounds.cell_close ER (ringRd m ρ) (Set.mem_univ (K (c, .inr (.inr (off i))))) (fun h => h) (R := 0 + 1) (duties_later m ρ (recvCell c (off i)))) $$ [Hat] with Hz
  · isplitr; · iapply (records_inv m ρ K (c, .inr (.inr (off i)))); iexact HR
    iexact Hat
  iapply Hk
  isplitl [HO]; · iexists _; iexact HO
  isplitl [Hz]; · iexact Hz
  iapply (Entails.of_eq (rest_recv m ρ c i)); iexact Hpay

/-- The semaphores of slot 0, which nothing uses, close at once. -/
theorem close_zero {α : Type} (c : Dev nD) {p : Prog (TpuEff nD τ sig (Elt F) Λ₀ .tc) α} {Q : α → sProp 𝕄} :
    iprop(records m ρ K ∗ atPos ER (sendCell c 0) 0 ∅ 0 ∗ atPos ER (recvCell c 0) 0 ∅ 0)
      ⊢ iprop(((semVal (sendCell c 0) 0 ∗ semVal (recvCell c 0) 0) -∗ wpB c p Q) -∗ wpB c p Q) := by
  iintro ⟨#HR, Ha, Hb⟩ Hk
  imod (Rounds.cell_close ER (ringRd m ρ) (Set.mem_univ (K (c, .inr (.inl 0)))) (fun h => h) (R := 0) (duties_send0 m ρ c)) $$ [Ha] with Hz
  · isplitr; · iapply (records_inv m ρ K (c, .inr (.inl 0))); iexact HR
    iexact Ha
  imod (Rounds.cell_close ER (ringRd m ρ) (Set.mem_univ (K (c, .inr (.inr 0)))) (fun h => h) (R := 0) (duties_recv0 m ρ c)) $$ [Hb] with Hz'
  · isplitr; · iapply (records_inv m ρ K (c, .inr (.inr 0))); iexact HR
    iexact Hb
  iapply Hk
  isplitl [Hz] <;> iassumption

/-- The copy at offset `7 - n`: this device's slot goes out, and lands in the receiver's slot as what it is to gather. -/
theorem copy_step {α : Type} (c d : Dev nD) (n : ℕ) (hd : d = fwd c ((left n).val + 1))
    {src : Memref sig .tc .vmem S64x512 .f32} {dst : Memref sig (Dev.tc d : Thread nD τ).2.kind .vmem S64x512 .f32} {q₁ q₂ : DmaSem sig}
    (h₁ : src = sSlot (off (left n))) (h₂ : dst = gSlot (off (left n))) (h₃ : q₁ = sendS (off (left n))) (h₄ : q₂ = recvS (off (left n)))
    {hsc : dst.view.ref.isScScratch = false} {hsrc : src.view.WordExact} {hdst : dst.view.WordExact}
    {hsem : DmaTarget.Typed .vmem (.dma q₂) (.remote (Dev.tc d : Thread nD τ) dst (.dma q₁) hsc)}
    {k : PUnit → Prog (TpuEff nD τ sig (Elt F) Λ₀ .tc) α} {Q : α → sProp 𝕄} (fd : Buf (Elt F) (((fwd c ((left n).val + 1) : Dev nD) : Thread nD τ).loc cc0_scratch2)) :
    iprop(records m ρ K ∗ sPts c (off (left n)) (sent m ρ c) ∗ gPts (fwd c ((left n).val + 1)) (off (left n)) fd
        ∗ ow c (owedR c (n + 1)) ∗ dutyTok ER (sendCell c (off (left n))) 0 0 ∗ dutyTok ER (recvCell (fwd c ((left n).val + 1)) (off (left n))) 0 0)
      ⊢ iprop(((ow c (owedR c n) ∗ cred (tallyAt (sendCell c (off (left n))) () N)) -∗ wpB c (k ⟨⟩) Q)
          -∗ wpB c (.op (.enqueueDma src (.remote (Dev.tc d : Thread nD τ) dst (.dma q₁) hsc) (.dma q₂) hsrc hdst hsem) k) Q) := by
  subst hd; subst h₁; subst h₂; subst h₃; subst h₄
  unfold ow sPts gPts
  iintro ⟨#HR, Hs, Hg, ⟨%W, HO⟩, Ht, Ht'⟩ Hk
  iapply (Rounds.wp_send_pointsTo 𝒱₀ ER (ringRd m ρ) (c : Thread nD τ) none (κ₁ := K (c, .inr (.inl (off (left n)))))
      (κ₂ := K (fwd c ((left n).val + 1), .inr (.inr (off (left n)))))
      (c' := ((fwd c ((left n).val + 1) : Dev nD) : Thread nD τ)) (src := sSlot (off (left n))) (dst := gSlot (off (left n))) (q := fullShare) (fs := sent m ρ c)
      (r₁ := 0) (r₂ := 0) (d₁ := 0) (d₂ := 0) (fd := fd)
      (by rw [duties_send]; exact Finset.mem_singleton_self _) (by rw [duties_recv]; exact Finset.mem_singleton_self _)
      () () N rfl (amount_send m ρ c _ _) (amount_recv m ρ (fwd c ((left n).val + 1)) _ _) (owedR c n) rfl (W := W)
      (by rw [payload_send, sSlot_set]; unfold sPts; exact BI.Entails.refl _)
      (by rw [payload_recv, gSlot_set]; unfold gPts
          refine Entails.of_eq (pointsTo_congr fun i hi => ?_)
          rw [copy_slot _ _ _ i hi, sent_eq_gath m ρ c _ i hi]; rfl)) $$ [Hs Hg HO Ht Ht']
  · isplitr; · iapply (records_inv m ρ K (c, .inr (.inl (off (left n))))); iexact HR
    isplitr; · iapply (records_inv m ρ K (fwd c ((left n).val + 1), .inr (.inr (off (left n))))); iexact HR
    isplitl [Hs]; · rw [sSlot_set]; iexact Hs
    isplitl [Hg]; · rw [gSlot_set]; iexact Hg
    isplitl [HO]; · iexact HO
    isplitl [Ht]; · iexact Ht
    isplitr; · iapply (records_reached m ρ K (c, .inr (.inl (off (left n))))); iexact HR
    isplitl [Ht']; · iexact Ht'
    iapply (records_reached m ρ K (fwd c ((left n).val + 1), .inr (.inr (off (left n))))); iexact HR
  iintro ⟨Hc, HO⟩; iapply Hk
  isplitl [HO]; · iexists W; iexact HO
  iexact Hc

end Cert.KernelIdealProof

end
-- ==== Proof.Body.lean ====
/-
# The kernel's body on one device

`bodyPre` is what device `c` starts from, `bodyPost` what it ends with; `sound_body` runs the body from one to the other,
one rule per effect, the effects of one offset together (`block_step`).
-/
module

public import proofs.«01_k».proof.Proof.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- A store into slot `o` of the send buffer stays within the slot. -/
theorem slot_store (o : Fin 8) : (sM.access (slotR o)).setOn Finset.univ ⊆ slotSet o := by
  show (sM.access (slotR o)).set ⊆ _
  rw [show (sM.access (slotR o)).set = (slotR o).set from View.set_slice_whole _ _]; exact Finset.Subset.refl _
/-- So does one into a slot of the gather buffer; -/
theorem slot_store' (o : Fin 8) : (gM.access (slotR o)).setOn Finset.univ ⊆ slotSet o := by
  show (gM.access (slotR o)).set ⊆ _
  rw [show (gM.access (slotR o)).set = (slotR o).set from View.set_slice_whole _ _]; exact Finset.Subset.refl _
/-- a load of a slot of the send buffer; -/
theorem slot_load (o : Fin 8) : sM.view.setOn (slotR o).toLoadRect.set ⊆ slotSet o := by
  have h := slot_store o
  rwa [show (sM.access (slotR o)).setOn Finset.univ = sM.view.setOn (slotR o).set from View.set_slice _ _] at h
/-- and one of a slot of the gather buffer. -/
theorem slot_load' (o : Fin 8) : gM.view.setOn (slotR o).toLoadRect.set ⊆ slotSet o := by
  have h := slot_store' o
  rwa [show (gM.access (slotR o)).setOn Finset.univ = gM.view.setOn (slotR o).set from View.set_slice _ _] at h

/-- A slot of the send buffer once stored to. -/
theorem sent_slot (c : Dev nD) (o : Fin 8) (f : Buf (Elt F) ((c : Thread nD τ).loc cc0_scratch1)) :
    (((c : Thread nD τ).loc cc0_scratch1) ↦[slotSet o]{fullShare} (sM.access (slotR o)).write (Elt F) f (part m ρ c (fwd c o.val)) Finset.univ : sProp 𝕄)
      ⊢ sPts c o (sent m ρ c) :=
  Entails.of_eq (pointsTo_congr fun i hi => store_sent m ρ c o f i hi)
/-- Slot 0 of the gather buffer once stored to. -/
theorem gath_slot (c : Dev nD) (f : Buf (Elt F) ((c : Thread nD τ).loc cc0_scratch2)) :
    (((c : Thread nD τ).loc cc0_scratch2) ↦[slotSet 0]{fullShare} (gM.access (slotR 0)).write (Elt F) f (part m ρ c c) Finset.univ : sProp 𝕄)
      ⊢ gPts c 0 (gath m ρ c) :=
  Entails.of_eq (pointsTo_congr fun i hi => store_gath m ρ c f i hi)

/-- The work of the offset `7 - n`: the loads, the product stored into the send buffer's slot,
    the copy started. -/
theorem block_step {α : Type} (c d : Dev nD) (n : ℕ) (hd : d = fwd c ((left n).val + 1))
    {pay : FVec F S1x64x256 .f32 → FVec F S1x64x256 .f32 → FVec F S1x256x512 .f32 → FVec F S1x256x512 .f32 → FVec F S1x64x512 .f32}
    (hpay : pay = k0_pay10)
    {o₁ : Fin 3 → ℕ} (ho₁ : o₁ = ![0, 64 * (fwd c ((left n).val + 1)).val, 0]) {i₁ : ∀ a, o₁ a + S1x64x256.size a ≤ S2x512x256.size a}
    {o₂ : Fin 3 → ℕ} (ho₂ : o₂ = ![1, 64 * (fwd c ((left n).val + 1)).val, 0]) {i₂ : ∀ a, o₂ a + S1x64x256.size a ≤ S2x512x256.size a}
    {oS : Fin 3 → ℕ} (hoS : oS = ![(off (left n)).val, 0, 0]) {iS : ∀ a, oS a + S1x64x512.size a ≤ S8x64x512.size a}
    {hl₁ : wM.view.LoadsAt (Rect.unit (s := S2x512x256) o₁ S1x64x256.size i₁).toLoadRect}
    {hl₂ : wM.view.LoadsAt (Rect.unit (s := S2x512x256) o₂ S1x64x256.size i₂).toLoadRect}
    {hl₃ : eM.view.LoadsAt expR0.toLoadRect} {hl₄ : eM.view.LoadsAt expR1.toLoadRect}
    {hl₅ : sM.view.LoadsAt (Rect.unit (s := S8x64x512) oS S1x64x512.size iS).toLoadRect}
    {hs : (sM.access (Rect.unit (s := S8x64x512) oS S1x64x512.size iS)).Stores Finset.univ}
    {hm : (Finset.univ : Finset (Rect.unit (s := S8x64x512) oS S1x64x512.size iS).shape.Idx) = Finset.univ ∨ ∀ a, (Rect.unit (s := S8x64x512) oS S1x64x512.size iS).stride a = 1}
    {src : Memref sig .tc .vmem S64x512 .f32} {dst : Memref sig (Dev.tc d : Thread nD τ).2.kind .vmem S64x512 .f32} {q₁ q₂ : DmaSem sig}
    (h₁ : src = sSlot (off (left n))) (h₂ : dst = gSlot (off (left n))) (h₃ : q₁ = sendS (off (left n))) (h₄ : q₂ = recvS (off (left n)))
    {hsc : dst.view.ref.isScScratch = false} {hsrc : src.view.WordExact} {hdst : dst.view.WordExact}
    {hsem : DmaTarget.Typed .vmem (.dma q₂) (.remote (Dev.tc d : Thread nD τ) dst (.dma q₁) hsc)}
    {k : PUnit → Prog (TpuEff nD τ sig (Elt F) Λ₀ .tc) α} {Q : α → sProp 𝕄} :
    iprop(records m ρ K ∗ (((c : Thread nD τ).loc cc0_scratch0) ↦{fullShare} scaled m ρ c) ∗ (((c : Thread nD τ).loc cc0_stg3_0) ↦{fullShare} eIn m ρ c)
        ∗ (∃ f, sPts c (off (left n)) f) ∗ barPay c (left n)
        ∗ ow c (owedR c (n + 1)) ∗ dutyTok ER (sendCell c (off (left n))) 0 0 ∗ dutyTok ER (recvCell (fwd c ((left n).val + 1)) (off (left n))) 0 0)
      ⊢ iprop((((((c : Thread nD τ).loc cc0_scratch0) ↦{fullShare} scaled m ρ c) ∗ (((c : Thread nD τ).loc cc0_stg3_0) ↦{fullShare} eIn m ρ c)
            ∗ ow c (owedR c n) ∗ cred (tallyAt (sendCell c (off (left n))) () N)) -∗ wpB c (k ⟨⟩) Q)
          -∗ wpB c (.op (.load wM (Rect.unit (s := S2x512x256) o₁ S1x64x256.size i₁).toLoadRect hl₁) fun (a₀ : Vec F S1x64x256 .f32) =>
              .op (.load wM (Rect.unit (s := S2x512x256) o₂ S1x64x256.size i₂).toLoadRect hl₂) fun (a₁ : Vec F S1x64x256 .f32) =>
              .op (.load eM expR0.toLoadRect hl₃) fun (w₀ : Vec F S1x256x512 .f32) => .op (.load eM expR1.toLoadRect hl₄) fun (w₁ : Vec F S1x256x512 .f32) =>
              .op (.load sM (Rect.unit (s := S8x64x512) oS S1x64x512.size iS).toLoadRect hl₅) fun _ =>
              .op (.store sM (Rect.unit (s := S8x64x512) oS S1x64x512.size iS) (pay a₀ a₁ w₀ w₁) Finset.univ hs hm) fun _ =>
              .op (.enqueueDma src (.remote (Dev.tc d : Thread nD τ) dst (.dma q₁) hsc) (.dma q₂) hsrc hdst hsem) k) Q) := by
  subst hpay; subst hoS
  iintro ⟨#HR, Hw, He, ⟨%f, Hs⟩, Hp, HO, Ht, Ht'⟩ Hk
  iapply (wp_load 𝒱₀ (c : Thread nD τ) none Set.univ (m := wM) (Finset.subset_univ _)) $$ Hw; iintro Hw
  rw [read_rows m ρ 0 c (fwd c ((left n).val + 1)) o₁ ho₁ i₁]
  iapply (wp_load 𝒱₀ (c : Thread nD τ) none Set.univ (m := wM) (Finset.subset_univ _)) $$ Hw; iintro Hw
  rw [read_rows m ρ 1 c (fwd c ((left n).val + 1)) o₂ ho₂ i₂]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  rw [show k0_pay10 (rows m ρ 0 c (fwd c ((left n).val + 1))) (rows m ρ 1 c (fwd c ((left n).val + 1)))
      (eM.view.readAt (Elt F) expR0.toLoadRect (eIn m ρ c)) (eM.view.readAt (Elt F) expR1.toLoadRect (eIn m ρ c))
    = part m ρ c (fwd c (off (left n)).val) from rfl]
  unfold sPts
  iapply (wp_load 𝒱₀ (c : Thread nD τ) none Set.univ (m := sM) (slot_load (off (left n)))) $$ Hs; iintro Hs
  iapply (wp_store 𝒱₀ (c : Thread nD τ) none Set.univ (m := sM) (r := slotR (off (left n))) (Mk := Finset.univ) (slot_store (off (left n)))) $$ Hs; iintro Hs
  unfold barPay
  icases Hp with ⟨%fd, Hg⟩
  iapply (copy_step m ρ K c d n hd h₁ h₂ h₃ h₄ fd) $$ [Hs Hg HO Ht Ht']
  · isplitr; · iexact HR
    isplitl [Hs]
    · iapply (sent_slot m ρ c (off (left n)) f); iexact Hs
    isplitl [Hg]; · iexact Hg
    isplitl [HO]; · iexact HO
    isplitl [Ht] <;> iassumption
  iintro ⟨HO, Hc⟩; iapply Hk
  isplitl [Hw]; · iexact Hw
  isplitl [He]; · iexact He
  isplitl [HO] <;> iassumption

/-! ## The pipeline's proof data -/

/-- The launch has one grid point; -/
theorem cfg0_N : cfg0.N = 1 := by decide
def t₀ : Fin cfg0.N := ⟨0, by rw [cfg0_N]; decide⟩
/-- this one. -/
theorem fin_N (t : Fin cfg0.N) : t = t₀ := by
  obtain ⟨t, ht⟩ := t; have := cfg0_N; exact Fin.ext (by simp only [t₀]; omega)

/-- What device `c` starts the exchange from: the records; its positions at its own cells; the tokens of the duties it pays. -/
def ghost (c : Dev nD) : sProp 𝕄 :=
  iprop(records m ρ K ∗ atPos ER (barCell c) 0 ∅ 0
    ∗ (bigSep Finset.univ fun o : Fin 8 => atPos ER (sendCell c o) 0 ∅ 0) ∗ (bigSep Finset.univ fun o : Fin 8 => atPos ER (recvCell c o) 0 ∅ 0)
    ∗ (bigSep Finset.univ fun i : Fin 7 => dutyTok ER (barCell (fwd c (i.val + 1))) 0 i.rev)
    ∗ (bigSep Finset.univ fun i : Fin 7 => dutyTok ER (sendCell c (off i)) 0 0)
    ∗ (bigSep Finset.univ fun i : Fin 7 => dutyTok ER (recvCell (fwd c (i.val + 1)) (off i)) 0 0))

/-- Its credits: seven signals on its barrier cell, one copy on each receive cell. -/
def credits (c : Dev nD) : sProp 𝕄 :=
  iprop(cred (tallyAt (barCell c) () 7) ∗ bigSep Finset.univ fun i : Fin 7 => cred (tallyAt (recvCell c (off i)) () N))

def start (c : Dev nD) : sProp 𝕄 := iprop((∃ K, ghost m ρ K c) ∗ credits c ∗ levAts L lv)

/-- The three scratch buffers at whatever they hold. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m ρ c ∗ scratch (F := F) c)
/-- After the point: the scratch buffers back, every own cell and the barrier cell closed at zero. -/
def Φ₁ (c : Dev nD) : sProp 𝕄 :=
  iprop(scratch (F := F) c ∗ (bigSep Finset.univ fun o : Fin 8 => semVal (sendCell c o) 0) ∗ (bigSep Finset.univ fun o : Fin 8 => semVal (recvCell c o) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => rIn m ρ c
    | ⟨2, _⟩ => iIn m ρ c
    | ⟨3, _⟩ => eIn m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The tokens are fetched at the point; -/
theorem fetch_0 (t : Fin cfg0.N) : (cfg0.win (0 : Fin 5)).fetch t = true := by rw [fin_N t]; rfl
/-- so is the router; -/
theorem fetch_1 (t : Fin cfg0.N) : (cfg0.win (1 : Fin 5)).fetch t = true := by rw [fin_N t]; rfl
/-- so are the routing words; -/
theorem fetch_2 (t : Fin cfg0.N) : (cfg0.win (2 : Fin 5)).fetch t = true := by rw [fin_N t]; rfl
/-- and the experts. -/
theorem fetch_3 (t : Fin cfg0.N) : (cfg0.win (3 : Fin 5)).fetch t = true := by rw [fin_N t]; rfl

omit [FloatOps F] in
/-- To own a whole buffer at given contents is to hold it with those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A family over the seven offsets, in the order in which the body meets them; -/
theorem fin7 (Φ : Fin 7 → sProp 𝕄) : bigSep Finset.univ Φ
    = iprop(Φ (left 6) ∗ Φ (left 5) ∗ Φ (left 4) ∗ Φ (left 3) ∗ Φ (left 2) ∗ Φ (left 1) ∗ Φ (left 0)) :=
  bigSep_univ_eq_bigSepL [left 6, left 5, left 4, left 3, left 2, left 1, left 0] (by decide) (by decide) Φ
omit [FloatOps F] in
/-- and over the eight slots, slot 0 first. -/
theorem fin8 (Φ : Fin 8 → sProp 𝕄) : bigSep Finset.univ Φ
    = iprop(Φ 0 ∗ Φ (off (left 6)) ∗ Φ (off (left 5)) ∗ Φ (off (left 4)) ∗ Φ (off (left 3)) ∗ Φ (off (left 2)) ∗ Φ (off (left 1)) ∗ Φ (off (left 0))) :=
  bigSep_univ_eq_bigSepL [0, off (left 6), off (left 5), off (left 4), off (left 3), off (left 2), off (left 1), off (left 0)] (by decide) (by decide) Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scratch (F := F) c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt () t₀.succ ∗ stg c cc0_stg0_0 (xIn m ρ c) ∗ stg c cc0_stg1_0 (rIn m ρ c)
    ∗ stg c cc0_stg2_0 (iIn m ρ c) ∗ stg c cc0_stg3_0 (eIn m ρ c) ∗ stg c cc0_stg4_0 (outAt m ρ c))

/-- The send buffer whole again from its slots, whatever each holds. -/
theorem sPts_join (c : Dev nD) (f₀ : Buf (Elt F) ((c : Thread nD τ).loc cc0_scratch1)) :
    (bigSep Finset.univ fun o : Fin 8 => iprop(∃ f, sPts c o f)) ⊢ iprop(∃ g, ((c : Thread nD τ).loc cc0_scratch1) ↦{fullShare} g : sProp 𝕄) :=
  Ring.pointsTo_blocks_join_exists (ℓ := (c : Thread nD τ).loc cc0_scratch1) slotSet slot_disjoint slot_cover f₀

/-- The buffer of scaled tokens after its two stores. -/
theorem scaled_whole (c : Dev nD) (f : Buf (Elt F) ((c : Thread nD τ).loc cc0_scratch0)) :
    (((c : Thread nD τ).loc cc0_scratch0) ↦{fullShare} (wM.access tokR1).write (Elt F) ((wM.access tokR0).write (Elt F) f (scaled0 m ρ c) Finset.univ) (scaled1 m ρ c) Finset.univ : sProp 𝕄)
      ⊢ (((c : Thread nD τ).loc cc0_scratch0) ↦{fullShare} scaled m ρ c) :=
  Entails.of_eq (congrArg _ (write_scaled m ρ c f))

abbrev outR : Rect S64x512 := Rect.unit (s := S64x512) ![0, 0] S64x512.size inb_S64x512_S64x512_0_0

set_option maxHeartbeats 4000000 in
/-- The body, from `bodyPre` to `bodyPost`: one rule per effect, in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) rM (Memref.isWhole_whole _) iM (Memref.isWhole_whole _) eM (Memref.isWhole_whole _)
            oM (Memref.isWhole_whole _) wM (Memref.isWhole_whole _) sM (Memref.isWhole_whole _) gM (Memref.isWhole_whole _) cc0_scratch3 cc0_scratch4) Kt := by
  simp only [cc0_body_eq_skeleton]; unfold cc0_body_skel
  simp only [k0_part15_eq_skeleton]; unfold k0_part15_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId]
  unfold bodyPre ghost credits scratch
  simp only [fin7, fin8]
  iintro ⟨⟨⟨⟨#HR, HatB, ⟨HatS0, HatS1, HatS2, HatS3, HatS4, HatS5, HatS6, HatS7⟩, ⟨HatV0, HatV1, HatV2, HatV3, HatV4, HatV5, HatV6, HatV7⟩,
      ⟨HtB1, HtB2, HtB3, HtB4, HtB5, HtB6, HtB7⟩, ⟨HtS1, HtS2, HtS3, HtS4, HtS5, HtS6, HtS7⟩, ⟨HtV1, HtV2, HtV3, HtV4, HtV5, HtV6, HtV7⟩⟩,
      ⟨HcB, HcV1, HcV2, HcV3, HcV4, HcV5, HcV6, HcV7⟩, #Hlev, ⟨%fw, Hw⟩, ⟨%fs, Hs⟩, ⟨%fg, Hg⟩⟩,
    Ho, ⟨%d0, %g0, %hg0, Hx⟩, ⟨%d1, %g1, %hg1, Hr⟩, ⟨%d2, %g2, %hg2, Hi⟩, ⟨%d3, %g3, %hg3, He⟩, ⟨%d4, %g4, %hg4, Hout⟩⟩, Hk⟩
  have e0 : g0 = xIn m ρ c := by rw [hg0]; unfold Dat.before; rw [if_pos (fetch_0 t₀)]; rfl
  have e1 : g1 = rIn m ρ c := by rw [hg1]; unfold Dat.before; rw [if_pos (fetch_1 t₀)]; rfl
  have e2 : g2 = iIn m ρ c := by rw [hg2]; unfold Dat.before; rw [if_pos (fetch_2 t₀)]; rfl
  have e3 : g3 = eIn m ρ c := by rw [hg3]; unfold Dat.before; rw [if_pos (fetch_3 t₀)]; rfl
  subst e0; subst e1; subst e2; subst e3
  clear hg0 hg1 hg2 hg3 hg4
  unfold Dat.owesAt Pipeline.owesWithin
  icases Ho with ⟨%W, %hW, HO⟩
  rw [show (dats m ρ 0 c).owed t₀.castSucc = owedB c 7 from rfl]
  ihave HO : (ow c (owedB c 7) : sProp 𝕄) $$ [HO]
  · unfold ow; iexists W; iexact HO
  ihave Hs := (Entails.of_eq (sPts_split c fs)) $$ Hs
  ihave Hg := (Entails.of_eq (gPts_split c fg)) $$ Hg
  simp only [fin8]
  icases Hs with ⟨Hs0, Hs1, Hs2, Hs3, Hs4, Hs5, Hs6, Hs7⟩
  icases Hg with ⟨Hg0, Hg1, Hg2, Hg3, Hg4, Hg5, Hg6, Hg7⟩
  -- a signal to each other device, with this device's slot for it
  iapply (signal_step m ρ K c _ 6 (Fin.ext (k0_dev1_eq c)) rfl rfl) $$ [HO HtB1 Hg7]
  · isplitr; · iexact HR
    isplitl [HO]; · iexact HO
    isplitl [HtB1]; · iexact HtB1
    iexists fg; iexact Hg7
  iintro HO
  iapply (signal_step m ρ K c _ 5 (Fin.ext (k0_dev2_eq c)) rfl rfl) $$ [HO HtB2 Hg6]
  · isplitr; · iexact HR
    isplitl [HO]; · iexact HO
    isplitl [HtB2]; · iexact HtB2
    iexists fg; iexact Hg6
  iintro HO
  iapply (signal_step m ρ K c _ 4 (Fin.ext (k0_dev3_eq c)) rfl rfl) $$ [HO HtB3 Hg5]
  · isplitr; · iexact HR
    isplitl [HO]; · iexact HO
    isplitl [HtB3]; · iexact HtB3
    iexists fg; iexact Hg5
  iintro HO
  iapply (signal_step m ρ K c _ 3 (Fin.ext (k0_dev4_eq c)) rfl rfl) $$ [HO HtB4 Hg4]
  · isplitr; · iexact HR
    isplitl [HO]; · iexact HO
    isplitl [HtB4]; · iexact HtB4
    iexists fg; iexact Hg4
  iintro HO
  iapply (signal_step m ρ K c _ 2 (Fin.ext (k0_dev5_eq c)) rfl rfl) $$ [HO HtB5 Hg3]
  · isplitr; · iexact HR
    isplitl [HO]; · iexact HO
    isplitl [HtB5]; · iexact HtB5
    iexists fg; iexact Hg3
  iintro HO
  iapply (signal_step m ρ K c _ 1 (Fin.ext (k0_dev6_eq c)) rfl rfl) $$ [HO HtB6 Hg2]
  · isplitr; · iexact HR
    isplitl [HO]; · iexact HO
    isplitl [HtB6]; · iexact HtB6
    iexists fg; iexact Hg2
  iintro HO
  iapply (signal_step m ρ K c _ 0 (Fin.ext (k0_dev7_eq c)) rfl rfl) $$ [HO HtB7 Hg1]
  · isplitr; · iexact HR
    isplitl [HO]; · iexact HO
    isplitl [HtB7]; · iexact HtB7
    iexists fg; iexact Hg1
  iintro HO
  -- the loads of the routing, and the two stores of the scaled tokens
  iapply (wp_load 𝒱₀ (c : Thread nD τ) none Set.univ (m := xM) (Finset.subset_univ _)) $$ Hx; iintro Hx
  rw [read_x]
  iapply (wp_load 𝒱₀ (c : Thread nD τ) none Set.univ (m := rM) (Finset.subset_univ _)) $$ Hr; iintro Hr
  rw [read_r]
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  iapply (wp_store 𝒱₀ (c : Thread nD τ) none Set.univ (m := wM) (r := tokR0) (Mk := Finset.univ) (Finset.subset_univ _)) $$ Hw; iintro Hw
  iapply (wp_load 𝒱₀ (c : Thread nD τ) none Set.univ (m := wM) (Finset.subset_univ _)) $$ Hw; iintro Hw
  iapply (wp_store 𝒱₀ (c : Thread nD τ) none Set.univ (m := wM) (r := tokR1) (Mk := Finset.univ) (Finset.subset_univ _)) $$ Hw; iintro Hw
  ihave Hw := (scaled_whole m ρ c fw) $$ Hw
  -- the barrier: every other device's slot for this one
  iapply (barrier_step m ρ K c rfl rfl) $$ [HO HcB HatB]
  · isplitr; · iexact HR
    isplitr; · iexact Hlev
    isplitl [HO]; · iexact HO
    isplitl [HcB] <;> iassumption
  rw [fin7]
  iintro ⟨HO, HzB, Hp1, Hp2, Hp3, Hp4, Hp5, Hp6, Hp7⟩
  -- the seven offsets
  iapply (block_step m ρ K c _ 6 (Fin.ext (k0_dev8_eq c)) rfl (k0_off1_eq c 0) (k0_off2_eq c 0) rfl rfl rfl rfl rfl) $$ [Hw He Hs1 Hp1 HO HtS1 HtV1]
  · isplitr; · iexact HR
    isplitl [Hw]; · iexact Hw
    isplitl [He]; · iexact He
    isplitl [Hs1]; · iexists fs; iexact Hs1
    isplitl [Hp1]; · iexact Hp1
    isplitl [HO]; · iexact HO
    isplitl [HtS1] <;> iassumption
  iintro ⟨Hw, He, HO, HcS1⟩
  iapply (block_step m ρ K c _ 5 (Fin.ext (k0_dev9_eq c)) rfl (k0_off1_eq c 1) (k0_off2_eq c 1) rfl rfl rfl rfl rfl) $$ [Hw He Hs2 Hp2 HO HtS2 HtV2]
  · isplitr; · iexact HR
    isplitl [Hw]; · iexact Hw
    isplitl [He]; · iexact He
    isplitl [Hs2]; · iexists fs; iexact Hs2
    isplitl [Hp2]; · iexact Hp2
    isplitl [HO]; · iexact HO
    isplitl [HtS2] <;> iassumption
  iintro ⟨Hw, He, HO, HcS2⟩
  iapply (block_step m ρ K c _ 4 (Fin.ext (k0_dev10_eq c)) rfl (k0_off1_eq c 2) (k0_off2_eq c 2) rfl rfl rfl rfl rfl) $$ [Hw He Hs3 Hp3 HO HtS3 HtV3]
  · isplitr; · iexact HR
    isplitl [Hw]; · iexact Hw
    isplitl [He]; · iexact He
    isplitl [Hs3]; · iexists fs; iexact Hs3
    isplitl [Hp3]; · iexact Hp3
    isplitl [HO]; · iexact HO
    isplitl [HtS3] <;> iassumption
  iintro ⟨Hw, He, HO, HcS3⟩
  iapply (block_step m ρ K c _ 3 (Fin.ext (k0_dev11_eq c)) rfl (k0_off1_eq c 3) (k0_off2_eq c 3) rfl rfl rfl rfl rfl) $$ [Hw He Hs4 Hp4 HO HtS4 HtV4]
  · isplitr; · iexact HR
    isplitl [Hw]; · iexact Hw
    isplitl [He]; · iexact He
    isplitl [Hs4]; · iexists fs; iexact Hs4
    isplitl [Hp4]; · iexact Hp4
    isplitl [HO]; · iexact HO
    isplitl [HtS4] <;> iassumption
  iintro ⟨Hw, He, HO, HcS4⟩
  iapply (block_step m ρ K c _ 2 (Fin.ext (k0_dev12_eq c)) rfl (k0_off1_eq c 4) (k0_off2_eq c 4) rfl rfl rfl rfl rfl) $$ [Hw He Hs5 Hp5 HO HtS5 HtV5]
  · isplitr; · iexact HR
    isplitl [Hw]; · iexact Hw
    isplitl [He]; · iexact He
    isplitl [Hs5]; · iexists fs; iexact Hs5
    isplitl [Hp5]; · iexact Hp5
    isplitl [HO]; · iexact HO
    isplitl [HtS5] <;> iassumption
  iintro ⟨Hw, He, HO, HcS5⟩
  iapply (block_step m ρ K c _ 1 (Fin.ext (k0_dev13_eq c)) rfl (k0_off1_eq c 5) (k0_off2_eq c 5) rfl rfl rfl rfl rfl) $$ [Hw He Hs6 Hp6 HO HtS6 HtV6]
  · isplitr; · iexact HR
    isplitl [Hw]; · iexact Hw
    isplitl [He]; · iexact He
    isplitl [Hs6]; · iexists fs; iexact Hs6
    isplitl [Hp6]; · iexact Hp6
    isplitl [HO]; · iexact HO
    isplitl [HtS6] <;> iassumption
  iintro ⟨Hw, He, HO, HcS6⟩
  iapply (block_step m ρ K c _ 0 (Fin.ext (k0_dev14_eq c)) rfl (k0_off1_eq c 6) (k0_off2_eq c 6) rfl rfl rfl rfl rfl) $$ [Hw He Hs7 Hp7 HO HtS7 HtV7]
  · isplitr; · iexact HR
    isplitl [Hw]; · iexact Hw
    isplitl [He]; · iexact He
    isplitl [Hs7]; · iexists fs; iexact Hs7
    isplitl [Hp7]; · iexact Hp7
    isplitl [HO]; · iexact HO
    isplitl [HtS7] <;> iassumption
  iintro ⟨Hw, He, HO, HcS7⟩
  -- the device's own block
  iapply (wp_load 𝒱₀ (c : Thread nD τ) none Set.univ (m := wM) (Finset.subset_univ _)) $$ Hw; iintro Hw
  rw [read_rows m ρ 0 c c _ (k0_off3_eq c)]
  iapply (wp_load 𝒱₀ (c : Thread nD τ) none Set.univ (m := wM) (Finset.subset_univ _)) $$ Hw; iintro Hw
  rw [read_rows m ρ 1 c c _ (k0_off4_eq c)]
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  rw [show k0_pay17 (rows m ρ 0 c c) (rows m ρ 1 c c)
      (eM.view.readAt (Elt F) expR0.toLoadRect (eIn m ρ c)) (eM.view.readAt (Elt F) expR1.toLoadRect (eIn m ρ c))
    = part m ρ c c from rfl]
  ihave Hg0 := (Entails.of_eq (show gPts c 0 fg = (((c : Thread nD τ).loc cc0_scratch2) ↦[slotSet 0]{fullShare} fg : sProp 𝕄) from rfl)) $$ Hg0
  iapply (wp_load 𝒱₀ (c : Thread nD τ) none Set.univ (m := gM) (slot_load' 0)) $$ Hg0; iintro Hg0
  iapply (wp_store 𝒱₀ (c : Thread nD τ) none Set.univ (m := gM) (r := slotR 0) (Mk := Finset.univ) (slot_store' 0)) $$ Hg0; iintro Hg0
  ihave Hg0 := (gath_slot m ρ c fg) $$ Hg0
  rw [show owedR c 0 = 0 from rfl]
  -- the waits
  iapply (sent_step m ρ K c (left 6) rfl rfl) $$ [HO HcS1 HatS1]
  · isplitr; · iexact HR
    isplitl [HO]; · iexact HO
    isplitl [HcS1] <;> iassumption
  iintro ⟨HO, HzS1, Hs1⟩
  iapply (recv_step m ρ K c (left 6) rfl rfl) $$ [HO HcV1 HatV1]
  · isplitr; · iexact HR
    isplitl [HO]; · iexact HO
    isplitl [HcV1] <;> iassumption
  iintro ⟨HO, HzV1, Hg1⟩
  iapply (sent_step m ρ K c (left 5) rfl rfl) $$ [HO HcS2 HatS2]
  · isplitr; · iexact HR
    isplitl [HO]; · iexact HO
    isplitl [HcS2] <;> iassumption
  iintro ⟨HO, HzS2, Hs2⟩
  iapply (recv_step m ρ K c (left 5) rfl rfl) $$ [HO HcV2 HatV2]
  · isplitr; · iexact HR
    isplitl [HO]; · iexact HO
    isplitl [HcV2] <;> iassumption
  iintro ⟨HO, HzV2, Hg2⟩
  iapply (sent_step m ρ K c (left 4) rfl rfl) $$ [HO HcS3 HatS3]
  · isplitr; · iexact HR
    isplitl [HO]; · iexact HO
    isplitl [HcS3] <;> iassumption
  iintro ⟨HO, HzS3, Hs3⟩
  iapply (recv_step m ρ K c (left 4) rfl rfl) $$ [HO HcV3 HatV3]
  · isplitr; · iexact HR
    isplitl [HO]; · iexact HO
    isplitl [HcV3] <;> iassumption
  iintro ⟨HO, HzV3, Hg3⟩
  iapply (sent_step m ρ K c (left 3) rfl rfl) $$ [HO HcS4 HatS4]
  · isplitr; · iexact HR
    isplitl [HO]; · iexact HO
    isplitl [HcS4] <;> iassumption
  iintro ⟨HO, HzS4, Hs4⟩
  iapply (recv_step m ρ K c (left 3) rfl rfl) $$ [HO HcV4 HatV4]
  · isplitr; · iexact HR
    isplitl [HO]; · iexact HO
    isplitl [HcV4] <;> iassumption
  iintro ⟨HO, HzV4, Hg4⟩
  iapply (sent_step m ρ K c (left 2) rfl rfl) $$ [HO HcS5 HatS5]
  · isplitr; · iexact HR
    isplitl [HO]; · iexact HO
    isplitl [HcS5] <;> iassumption
  iintro ⟨HO, HzS5, Hs5⟩
  iapply (recv_step m ρ K c (left 2) rfl rfl) $$ [HO HcV5 HatV5]
  · isplitr; · iexact HR
    isplitl [HO]; · iexact HO
    isplitl [HcV5] <;> iassumption
  iintro ⟨HO, HzV5, Hg5⟩
  iapply (sent_step m ρ K c (left 1) rfl rfl) $$ [HO HcS6 HatS6]
  · isplitr; · iexact HR
    isplitl [HO]; · iexact HO
    isplitl [HcS6] <;> iassumption
  iintro ⟨HO, HzS6, Hs6⟩
  iapply (recv_step m ρ K c (left 1) rfl rfl) $$ [HO HcV6 HatV6]
  · isplitr; · iexact HR
    isplitl [HO]; · iexact HO
    isplitl [HcV6] <;> iassumption
  iintro ⟨HO, HzV6, Hg6⟩
  iapply (sent_step m ρ K c (left 0) rfl rfl) $$ [HO HcS7 HatS7]
  · isplitr; · iexact HR
    isplitl [HO]; · iexact HO
    isplitl [HcS7] <;> iassumption
  iintro ⟨HO, HzS7, Hs7⟩
  iapply (recv_step m ρ K c (left 0) rfl rfl) $$ [HO HcV7 HatV7]
  · isplitr; · iexact HR
    isplitl [HO]; · iexact HO
    isplitl [HcV7] <;> iassumption
  iintro ⟨HO, HzV7, Hg7⟩
  iapply (close_zero m ρ K c) $$ [HatS0 HatV0]
  · isplitr; · iexact HR
    isplitl [HatS0] <;> iassumption
  iintro ⟨HzS0, HzV0⟩
  -- the gathered blocks summed
  ihave Hg : (((c : Thread nD τ).loc cc0_scratch2) ↦{fullShare} gath m ρ c : sProp 𝕄) $$ [Hg0 Hg1 Hg2 Hg3 Hg4 Hg5 Hg6 Hg7]
  · rw [gPts_split c (gath m ρ c), fin8]
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6] <;> iassumption
  iapply (wp_load 𝒱₀ (c : Thread nD τ) none Set.univ (m := gM) (Finset.subset_univ _)) $$ Hg; iintro Hg
  rw [read_gath]
  iapply (wp_load 𝒱₀ (c : Thread nD τ) none Set.univ (m := oM) (Finset.subset_univ _)) $$ Hout; iintro Hout
  iapply (wp_store 𝒱₀ (c : Thread nD τ) none Set.univ (m := oM) (r := outR) (Mk := Finset.univ) (Finset.subset_univ _)) $$ Hout; iintro Hout
  rw [write_out, wp_ret]; imodintro
  iapply Hk
  unfold bodyPost Φ₁ scratch Dat.owesAt Pipeline.owesWithin ow
  rw [show (dats m ρ 0 c).owed t₀.succ = 0 from rfl]
  simp only [fin8]
  icases HO with ⟨%W', HO⟩
  isplitl [Hw Hs0 Hs1 Hs2 Hs3 Hs4 Hs5 Hs6 Hs7 Hg HzS0 HzS1 HzS2 HzS3 HzS4 HzS5 HzS6 HzS7 HzV0 HzV1 HzV2 HzV3 HzV4 HzV5 HzV6 HzV7 HzB]
  · isplitl [Hw Hs0 Hs1 Hs2 Hs3 Hs4 Hs5 Hs6 Hs7 Hg]
    · isplitl [Hw]; · iexists _; iexact Hw
      isplitr [Hg]
      · iapply (sPts_join c fs)
        rw [fin8]
        isplitl [Hs0]; · iexists _; iexact Hs0
        isplitl [Hs1]; · iexists _; iexact Hs1
        isplitl [Hs2]; · iexists _; iexact Hs2
        isplitl [Hs3]; · iexists _; iexact Hs3
        isplitl [Hs4]; · iexists _; iexact Hs4
        isplitl [Hs5]; · iexists _; iexact Hs5
        isplitl [Hs6]; · iexists _; iexact Hs6
        iexists _; iexact Hs7
      · iexists _; iexact Hg
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6] <;> iassumption
    isplitl [HzV0 HzV1 HzV2 HzV3 HzV4 HzV5 HzV6 HzV7]
    · isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      isplitl [HzV6] <;> iassumption
    iexact HzB
  isplitl [HO]
  · iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hi]; · iexists _; isplitr; · (ipureintro; rfl)
                  iexact Hi
  isplitl [He]; · iexists _; isplitr; · (ipureintro; rfl)
                  iexact He
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body xM (Memref.isWhole_whole _) rM (Memref.isWhole_whole _) iM (Memref.isWhole_whole _) eM (Memref.isWhole_whole _)
            oM (Memref.isWhole_whole _) wM (Memref.isWhole_whole _) sM (Memref.isWhole_whole _) gM (Memref.isWhole_whole _) cc0_scratch3 cc0_scratch4)
    (fun _ => bodyPost m ρ c)
  unfold bodyPre' Φ₀ start
  iintro ⟨⟨⟨⟨%K, Hg⟩, Hc, Hl⟩, Hscr⟩, Hrest⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    iexact Hrest
  · iintro H; iexact H

end Cert.KernelIdealProof

end
-- ==== Proof.Run.lean ====
/-
# The launch: every device's state dealt, the eight bodies run, the final memory

Each device gives up its semaphores and its cells' round states; all cells' invariants are allocated at once; the duty
tokens move to the devices that pay the duties. `run_main` is the whole program's run.
-/
module

public import proofs.«01_k».proof.Proof.Body
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores are scoped, distinct and none of the pipeline's. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-! ## The cells and their tokens -/

/-- The semaphores of the exchange are distinct; -/
theorem csem_injective : Function.Injective csem := by
  intro k k' h
  rcases k with _ | (o | o) <;> rcases k' with _ | (o' | o')
  · rfl
  · cases h
  · cases h
  · cases h
  · have e : (sendS o).val = (sendS o').val := congrArg (fun q : SemLoc sig => match q with | .dma q => q.val | .reg _ => 0) h
    rw [sendS_val, sendS_val] at e
    rw [show o = o' from Fin.ext (by omega)]
  · have e : (sendS o).val = (recvS o').val := congrArg (fun q : SemLoc sig => match q with | .dma q => q.val | .reg _ => 0) h
    rw [sendS_val, recvS_val] at e; omega
  · cases h
  · have e : (recvS o).val = (sendS o').val := congrArg (fun q : SemLoc sig => match q with | .dma q => q.val | .reg _ => 0) h
    rw [sendS_val, recvS_val] at e; omega
  · have e : (recvS o).val = (recvS o').val := congrArg (fun q : SemLoc sig => match q with | .dma q => q.val | .reg _ => 0) h
    rw [recvS_val, recvS_val] at e
    rw [show o = o' from Fin.ext (by omega)]

/-- so are its cells over all devices; -/
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the exchange. -/
def ringCells : Finset (GSem nD τ sig) := Finset.univ.map ⟨kcell, kcell_injective⟩

/-- One device's duties: seven on its barrier cell, one on each send cell, one on each receive cell. -/
abbrev TK : Type := Fin 7 ⊕ (Fin 7 ⊕ Fin 7)
abbrev dutyOf : TK → CK × Fin 7
  | .inl d => (.inl (), d) | .inr (.inl i) => (.inr (.inl (off i)), 0) | .inr (.inr i) => (.inr (.inr (off i)), 0)
/-- so are one device's duties; -/
theorem dutyOf_injective : Function.Injective dutyOf := by decide
abbrev tokOf (ct : Dev nD × TK) : GSem nD τ sig × ℕ × Fin 7 := (kcell (ct.1, (dutyOf ct.2).1), 0, (dutyOf ct.2).2)
/-- and the duties' tokens over all devices. -/
theorem tokOf_injective : Function.Injective tokOf := by
  rintro ⟨c, t⟩ ⟨c', t'⟩ h
  have h1 := kcell_injective (congrArg Prod.fst h)
  have h2 : (dutyOf t).2 = (dutyOf t').2 := congrArg (fun x : GSem nD τ sig × ℕ × Fin 7 => x.2.2) h
  have h3 : c = c' := congrArg Prod.fst h1
  have h4 : t = t' := dutyOf_injective (Prod.ext (congrArg Prod.snd h1) h2)
  rw [h3, h4]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 7 => dutyTok ER (barCell c) 0 d) ∗ (bigSep Finset.univ fun i : Fin 7 => dutyTok ER (sendCell c (off i)) 0 0)
    ∗ bigSep Finset.univ fun i : Fin 7 => dutyTok ER (recvCell c (off i)) 0 0)

/-- The tokens of the duties device `c` pays. -/
def payToks (c : Dev nD) : sProp 𝕄 :=
  iprop((bigSep Finset.univ fun i : Fin 7 => dutyTok ER (barCell (fwd c (i.val + 1))) 0 i.rev)
    ∗ (bigSep Finset.univ fun i : Fin 7 => dutyTok ER (sendCell c (off i)) 0 0)
    ∗ (bigSep Finset.univ fun i : Fin 7 => dutyTok ER (recvCell (fwd c (i.val + 1)) (off i)) 0 0))

/-- What the launch deals device `c`: its cells' round states, its positions and the marks, its cells' tokens. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What it holds once the invariants are allocated and the tokens dealt. -/
def G' (c : Dev nD) : sProp 𝕄 := iprop(∃ K, ghost m ρ K c)

omit [FloatOps F] in
/-- A family over one device's cells: the barrier's, the send cells', the receive cells'. -/
theorem bigSep_CK (Φ : CK → sProp 𝕄) : bigSep Finset.univ Φ
    = iprop(Φ (.inl ()) ∗ (bigSep Finset.univ fun o : Fin 8 => Φ (.inr (.inl o))) ∗ bigSep Finset.univ fun o : Fin 8 => Φ (.inr (.inr o))) := by
  have e1 := BI.bigSep_univ_sum Φ
  have e2 := BI.bigSep_univ_sum fun b : Fin 8 ⊕ Fin 8 => Φ (.inr b)
  have e3 : bigSep Finset.univ (fun a : Unit => Φ (.inl a)) = Φ (.inl ()) := bigSep_singleton
  rw [e1, e2, e3]; rfl

omit [FloatOps F] in
/-- A family over one device's duties, likewise. -/
theorem bigSep_TK (Φ : TK → sProp 𝕄) : bigSep Finset.univ Φ
    = iprop((bigSep Finset.univ fun d : Fin 7 => Φ (.inl d)) ∗ (bigSep Finset.univ fun i : Fin 7 => Φ (.inr (.inl i))) ∗ bigSep Finset.univ fun i : Fin 7 => Φ (.inr (.inr i))) := by
  have e1 := BI.bigSep_univ_sum Φ
  have e2 := BI.bigSep_univ_sum fun b : Fin 7 ⊕ Fin 7 => Φ (.inr b)
  rw [e1, e2]; rfl

/-- The launch's ghost state gives every device its share. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores are the eight send and the eight receive ones; -/
theorem ownSems0_eq (c : Dev nD) : (Pipeline.ownSems0 (Ix := Unit) (Name := ℕ) (U := UU) (Lvl := ℕ) (Val := Elt F) (τ := τ) osem c : sProp 𝕄)
    = iprop((bigSep Finset.univ fun o : Fin 8 => semVal (sendCell c o) 0) ∗ bigSep Finset.univ fun o : Fin 8 => semVal (recvCell c o) 0) := by
  unfold Pipeline.ownSems0
  exact BI.bigSep_univ_sum fun k : Fin 8 ⊕ Fin 8 => (semVal ((c : Thread nD τ), osem k) 0 : sProp 𝕄)
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at zero are the exchange's cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

/-- One device's semaphores and share become the invariants of its cells, its positions and its tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the devices -/

omit [FloatOps F] in
/-- A family over devices and offsets may be taken in either order. -/
theorem bigSep_comm (Φ : Dev nD → Fin 7 → sProp 𝕄) :
    (bigSep Finset.univ fun c => bigSep Finset.univ fun i => Φ c i) = bigSep Finset.univ fun i => bigSep Finset.univ fun c => Φ c i :=
  (bigSep_univ_prod fun x : Dev nD × Fin 7 => Φ x.1 x.2).symm.trans
    ((bigSep_univ_equiv (Equiv.prodComm (Fin 7) (Dev nD)) fun x => Φ x.1 x.2).trans (bigSep_univ_prod fun x : Fin 7 × Dev nD => Φ x.2 x.1))

omit [FloatOps F] in
/-- A family over devices and offsets, each offset's members moved that many places on. -/
theorem bigSep_shift (Φ : Dev nD → Fin 7 → sProp 𝕄) :
    (bigSep Finset.univ fun c => bigSep Finset.univ fun i => Φ c i)
      = bigSep Finset.univ fun c => bigSep Finset.univ fun i : Fin 7 => Φ (fwd c (i.val + 1)) i := by
  rw [bigSep_comm, bigSep_comm fun c i => Φ (fwd c (i.val + 1)) i]
  exact bigSep_congr fun i _ => bigSep_univ_equiv (ring (off i)) fun c => Φ c i

omit [FloatOps F] in
/-- The tokens of all devices' own cells, dealt to those who pay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_congr (s := Finset.univ) (fun (c : Dev nD) _ => bigSep_univ_equiv Fin.revPerm fun d : Fin 7 => (dutyTok ER (barCell c) 0 d : sProp 𝕄)),
    bigSep_shift fun c i => (dutyTok ER (barCell c) 0 (Fin.revPerm i) : sProp 𝕄),
    bigSep_shift fun c i => (dutyTok ER (recvCell c (off i)) 0 0 : sProp 𝕄)]
  exact BI.Entails.refl _

def linear (c : Dev nD) : sProp 𝕄 :=
  iprop((bigSep Finset.univ fun k : CK => atPos ER (kcell (c, k)) 0 ∅ 0) ∗ payToks c)

/-- The records and a device's own share are what it starts the exchange from. -/
theorem ghost_intro (K : Dev nD × CK → ℕ) (c : Dev nD) : iprop(records m ρ K ∗ linear c) ⊢ G' m ρ c := by
  unfold linear payToks G' ghost
  rw [bigSep_CK]
  iintro ⟨#HR, ⟨HaB, HaS, HaV⟩, HtB, HtS, HtV⟩
  iexists K
  isplitr; · iexact HR
  isplitl [HaB]; · iexact HaB
  isplitl [HaS]; · iexact HaS
  isplitl [HaV]; · iexact HaV
  isplitl [HtB]; · iexact HtB
  isplitl [HtS] <;> iassumption

omit [FloatOps F] in
/-- A persistent fact may be used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The shares of all devices, regrouped: one family of records for all, the tokens dealt round. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The launch's global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what all devices owe a cell -/

/-- Barrier cells are one when the devices are; -/
theorem bar_eq_iff {a b : Dev nD} : Iff (barCell a = barCell b) (a = b) :=
  ⟨fun h => Fin.ext (congrArg (fun g : GSem nD τ sig => g.1.1.val) h), fun h => h ▸ rfl⟩
/-- receive cells when devices and slots are; -/
theorem recv_eq_iff {a b : Dev nD} {o o' : Fin 8} : Iff (recvCell a o = recvCell b o') (a = b ∧ o = o') :=
  ⟨fun h => ⟨Fin.ext (congrArg (fun g : GSem nD τ sig => g.1.1.val) h),
    Sum.inr.inj (Sum.inr.inj (csem_injective (a₁ := .inr (.inr o)) (a₂ := .inr (.inr o')) (congrArg Prod.snd h)))⟩, fun h => by rw [h.1, h.2]⟩
/-- a barrier cell is no receive cell. -/
theorem bar_ne_recv {a b : Dev nD} {o : Fin 8} : barCell a ≠ recvCell b o := fun h => by cases congrArg Prod.snd h

/-- Among the last `n` signals of `d`, those to `c`; among its last `n` copies, those to `c` at offset `i + 1`. -/
def hits (d c : Dev nD) (n : ℕ) : ℕ := ((Finset.range n).filter fun k => fwd d ((left k).val + 1) = c).card
def hitsAt (d c : Dev nD) (i : Fin 7) (n : ℕ) : ℕ := ((Finset.range n).filter fun k => fwd d ((left k).val + 1) = c ∧ left k = i).card

/-- The copies owe a barrier cell nothing; -/
theorem owedR_bar (d c : Dev nD) : ∀ n, owedR d n (barCell c) () = 0
  | 0 => rfl
  | n + 1 => by
    unfold owedR
    rw [Pi.add_apply, Finsupp.add_apply, owedR_bar d c n, tallyAt_ne_cell bar_ne_recv, Finsupp.zero_apply, Nat.add_zero]
/-- the signals owe it one for each that goes there; -/
theorem owedB_bar (d c : Dev nD) : ∀ n, owedB d n (barCell c) () = hits d c n
  | 0 => owedR_bar d c 7
  | n + 1 => by
    unfold owedB hits
    rw [Pi.add_apply, Finsupp.add_apply, owedB_bar d c n, tallyAt_apply, Finset.range_add_one, Finset.filter_insert]
    unfold hits
    by_cases h : fwd d ((left n).val + 1) = c
    · rw [if_pos ⟨bar_eq_iff.mpr h.symm, rfl⟩, if_pos h, Finset.card_insert_of_notMem (by simp)]
    · rw [if_neg (fun h' => h (bar_eq_iff.mp h'.1).symm), if_neg h, Nat.add_zero]
/-- the copies owe a receive cell a slot's worth for each that goes there; -/
theorem owedR_recv (d c : Dev nD) (i : Fin 7) : ∀ n, owedR d n (recvCell c (off i)) () = hitsAt d c i n * N
  | 0 => by unfold hitsAt; rw [Finset.range_zero, Finset.filter_empty, Finset.card_empty, Nat.zero_mul]; rfl
  | n + 1 => by
    unfold owedR hitsAt
    rw [Pi.add_apply, Finsupp.add_apply, owedR_recv d c i n, tallyAt_apply, Finset.range_add_one, Finset.filter_insert]
    unfold hitsAt
    by_cases h : fwd d ((left n).val + 1) = c ∧ left n = i
    · rw [if_pos ⟨recv_eq_iff.mpr ⟨h.1.symm, by rw [h.2]⟩, rfl⟩, if_pos h, Finset.card_insert_of_notMem (by simp), Nat.add_mul, Nat.one_mul]
    · rw [if_neg (fun h' => h ⟨(recv_eq_iff.mp h'.1).1.symm, (Fin.succ_injective _ (recv_eq_iff.mp h'.1).2).symm⟩), if_neg h, Nat.add_zero]
/-- the signals add nothing to that. -/
theorem owedB_recv (d c : Dev nD) (i : Fin 7) : ∀ n, owedB d n (recvCell c (off i)) () = hitsAt d c i 7 * N
  | 0 => owedR_recv d c i 7
  | n + 1 => by
    unfold owedB
    rw [Pi.add_apply, Finsupp.add_apply, owedB_recv d c i n, tallyAt_ne_cell bar_ne_recv.symm, Finsupp.zero_apply, Nat.add_zero]

/-- Seven signals go to every device; -/
theorem hits_sum : ∀ c : Dev nD, ∑ d : Dev nD, hits d c 7 = 7 := by decide +kernel
/-- one copy at every offset. -/
theorem hitsAt_sum : ∀ (c : Dev nD) (i : Fin 7), ∑ d : Dev nD, hitsAt d c i 7 = 1 := by decide +kernel

/-- All devices together owe a barrier cell seven; -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => owedB_bar d c 7).trans (hits_sum c)
/-- and a receive cell one slot's worth. -/
theorem launch_recv (c : Dev nD) (i : Fin 7) :
    tallyOn (recvCell c (off i)) (launchCredit (Pipeline.owing O₀) 0 (recvCell c (off i))) = (tallyAt (recvCell c (off i)) () N : CellTallies nD τ sig Unit) := by
  unfold tallyAt; refine congrArg _ (Finsupp.ext fun u => ?_); cases u
  rw [Pipeline.launchCredit_owing, Finsupp.single_eq_same]
  exact (Finset.sum_congr rfl fun d _ => owedB_recv d c i 7).trans (by rw [← Finset.sum_mul, hitsAt_sum, Nat.one_mul])

/-- The receive semaphores of the seven offsets among all semaphores. -/
def recvEmb : Fin 7 ↪ SemLoc sig :=
  ⟨fun i => .dma (recvS (off i)), fun i i' h => Fin.succ_injective _ (Sum.inr.inj (Sum.inr.inj (csem_injective (a₁ := .inr (.inr (off i))) (a₂ := .inr (.inr (off i'))) h)))⟩

omit [FloatOps F] in
/-- The launch's credits hold a device's own. -/
theorem creds (c : Dev nD) : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map recvEmb) fun q hq => ?_).trans ?_
  · obtain ⟨i, -, rfl⟩ := Finset.mem_map.mp hq
    simp [recvEmb]
  · rw [bigSep_map]
    exact bigSep_mono fun i _ => Entails.of_eq (congrArg (fun T : CellTallies nD τ sig Unit => (cred T : sProp 𝕄)) (launch_recv c i))

/-! ## The run -/

/-- A device's part of the launch is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- The start and the scratch buffers are what the body begins with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What the body ends with gives back the semaphores, at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS] <;> iassumption
  iexact Hr

/-- Every wait of the staging is below what the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the eight devices terminates, and every final state
    has each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The tokens end as they were; -/
theorem finalA_0 (c : Dev nD) : finalA m ρ c (0 : Fin 5) = (s₀ m ρ).mem (win0_0.arr.view.loc (c : Thread nD τ)) := (dats (F := F) m ρ 0 c).arrAt_in (0 : Fin 5) rfl _
/-- so does the router; -/
theorem finalA_1 (c : Dev nD) : finalA m ρ c (1 : Fin 5) = (s₀ m ρ).mem (win0_1.arr.view.loc (c : Thread nD τ)) := (dats (F := F) m ρ 0 c).arrAt_in (1 : Fin 5) rfl _
/-- so do the routing words; -/
theorem finalA_2 (c : Dev nD) : finalA m ρ c (2 : Fin 5) = (s₀ m ρ).mem (win0_2.arr.view.loc (c : Thread nD τ)) := (dats (F := F) m ρ 0 c).arrAt_in (2 : Fin 5) rfl _
/-- and the experts. -/
theorem finalA_3 (c : Dev nD) : finalA m ρ c (3 : Fin 5) = (s₀ m ρ).mem (win0_3.arr.view.loc (c : Thread nD τ)) := (dats (F := F) m ρ 0 c).arrAt_in (3 : Fin 5) rfl _

end Cert.KernelIdealProof

end
-- ==== Proof.Same.lean ====
/-
# The kernel and its idealized print are one program

The idealized print replaces no operation, so the two printed modules differ in their names alone: their body tables and
their `main`s are equal at every float instance. What is proved of one run holds of the other.
-/
module

public import proofs.«01_k».proof.Proof.Gen.Kernel
public import proofs.«01_k».proof.Proof.Gen.KernelIdeal

@[expose] public section

set_option maxRecDepth 16384

noncomputable section

namespace Cert.Same

open Idealize.ShloMosaic

variable {F : FTy → Type} [FloatOps F]

/-- The kernel functions are the same: -/
theorem body_eq : Cert.Kernel.cc0_body (F := F) = Cert.KernelIdeal.cc0_body (F := F) := rfl

/-- so are the tables that name them, -/
theorem table_eq : Cert.Kernel.defs₀ (F := F) = Cert.KernelIdeal.defs₀ (F := F) := by
  unfold Cert.Kernel.defs₀ Cert.KernelIdeal.defs₀
  refine congrArg Defs.onTc (funext fun l => funext fun x => ?_)
  obtain ⟨_ | n, h⟩ := l
  · obtain ⟨t, s⟩ := x
    rw [body_eq]
  · exact absurd h (Nat.not_lt.2 (Nat.le_add_left _ _))

/-- the tables with the pipeline's own labels, -/
theorem defs_eq : Cert.Kernel.defs (F := F) = Cert.KernelIdeal.defs (F := F) := by
  show Pipeline.defs Cert.Kernel.pcfgs _ = Pipeline.defs Cert.KernelIdeal.pcfgs _
  rw [table_eq]; rfl

/-- and the main functions. -/
theorem main_eq : Cert.Kernel.main (F := F) = Cert.KernelIdeal.main (F := F) := rfl

end Cert.Same

end
-- ==== Proof.Frames.lean ====
/-
# The claims that state no value: the frames, and that the idealized print is a rewrite of the kernel

One run of the kernel (`run_main`) gives every frame of the kernel, at either float instance.
-/
module

public import proofs.«01_k».proof.Defs
public import proofs.«01_k».proof.Proof.Run
public import proofs.«01_k».proof.Proof.Same
public import proofs.«01_k».proof.Proof.Gen.ReferenceIdeal.Run
public import proofs.«01_k».proof.Proof.Gen.Pre_well_posed_KernelIdeal
public import proofs.«01_k».proof.Proof.Gen.Pre_well_posed_ReferenceIdeal
public import Idealize.ShloMosaic.Lib.Claim

@[expose] public section

set_option maxRecDepth 16384

noncomputable section

namespace Cert.Frames

open Idealize.ShloMosaic Idealize.ShloMosaic.TcCoe Idealize.SL.Sem
open Cert.KernelIdeal Cert.KernelIdealProof

section
variable {F : FTy → Type} [FloatOps F]

/-- The idealized kernel at any float instance: it terminates; its four argument arrays end unchanged and its result array
    at what the body computes; every semaphore counter ends at zero. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = finalA m ρ c (4 : Fin 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (run_main m ρ) fun r h => ⟨fun c => ⟨h.1 c (4 : Fin 5), (h.1 c (0 : Fin 5)).trans (finalA_0 m ρ c),
    (h.1 c (1 : Fin 5)).trans (finalA_1 m ρ c), (h.1 c (2 : Fin 5)).trans (finalA_2 m ρ c),
    (h.1 c (3 : Fin 5)).trans (finalA_3 m ρ c)⟩, h.2⟩

/-- The kernel as printed runs as its idealized print does: any post of the one is a post of the other. -/
theorem kernel_of_ideal (m : (ℓ : Loc nD τ sig) → Buf (Elt F) ℓ) (ρ : Dev nD → PrngReg) (Q : PUnit × MemSt nD τ sig (Elt F) → Prop)
    (h : θ_run (Cert.KernelIdeal.defs (F := F)) (onTc (τ := τ) (Cert.KernelIdeal.main (F := F))) ⟨m, fun _ => 0, ρ⟩ Q) :
    θ_run (Cert.Kernel.defs (F := F)) (onTc (τ := τ) (Cert.Kernel.main (F := F))) ⟨m, fun _ => 0, ρ⟩ Q := by
  rw [Cert.Same.defs_eq]; exact h
end

/-- The kernel's frame at the bit-exact instance. -/
theorem quiescent_kernel : Cert.quiescent_Kernel := fun m ρ _ =>
  kernel_of_ideal m ρ _ (θ_run_mono (kernel_run (F := Bits) m ρ) fun _ h => ⟨fun c => (h.1 c).2, h.2⟩)

/-- The idealized kernel's frame. -/
theorem quiescent_ideal : Cert.quiescent_KernelIdeal := fun m ρ _ =>
  θ_run_mono (kernel_run (F := Ideal) m ρ) fun _ h => ⟨fun c => (h.1 c).2, h.2⟩

/-- The reference's frame: a host program that declares no semaphore. -/
theorem quiescent_reference : Cert.quiescent_ReferenceIdeal := fun m ρ _ =>
  θ_run_mono (Cert.ReferenceIdeal.Value.run (F := Ideal) m ρ) fun r h => ⟨fun c => (h c).2, sem_eq_zero_of_no_sems (by decide) r.2⟩

/-- The same under the precondition, which it does not need. -/
theorem quiescent_ideal_pre : Cert.quiescent_KernelIdeal_pre_well_posed_KernelIdeal := fun m ρ _ => quiescent_ideal m ρ trivial

/-- The reference's frame under the precondition. -/
theorem quiescent_reference_pre : Cert.quiescent_ReferenceIdeal_pre_well_posed_ReferenceIdeal := fun m ρ _ => quiescent_reference m ρ trivial

end Cert.Frames

end
-- ==== Proof.Model.lean ====
/-
# The layer as plain mathematics

`score`, `top` and `raw` are the router's scores of a token, the greatest of them, and the exponential of a score less the
greatest. The device that holds an expert scales the token by its weight for that expert and multiplies; the reference
picks the token's two experts and mixes their products. `mix` says that the two agree on finite tokens and scores, whatever
the expert matrices hold.
-/
module

public import Idealize.ShloMosaic.PureOps.Ideal
public import Mathlib.Data.EReal.Operations
public import Mathlib.Data.EReal.Inv

@[expose] public section

noncomputable section

namespace Cert.Model

open Idealize.ShloMosaic

/-! ## Sums of extended reals -/

/-- A finite sum of real numbers is a real number. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor comes out of a finite sum, whatever the summands. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- The quotient of a real number by a nonzero one. -/
theorem div_real (a b : ℝ) (hb : b ≠ 0) : Ideal.div (a : EReal) (b : EReal) = ((a / b : ℝ) : EReal) := by
  rw [Ideal.div_coe hb, ← EReal.coe_mul, mul_one_div]

/-! ## The router -/

section
variable {nk : ℕ}

/-- The router's score of one token for expert `e`. -/
def score (x : Fin nk → EReal) (r : Fin nk → Fin 16 → EReal) (e : Fin 16) : EReal := ∑ k, x k * r k e

/-- The greatest score of the token. -/
def top (x : Fin nk → EReal) (r : Fin nk → Fin 16 → EReal) : EReal := Finset.univ.fold max ⊥ (score x r)

/-- The exponential of a score less the greatest. -/
def raw (x : Fin nk → EReal) (r : Fin nk → Fin 16 → EReal) (e : Fin 16) : EReal := Ideal.exp (score x r e - top x r)

/-- On a finite token and a finite router every exponential is a positive real number. -/
theorem raw_pos (x : Fin nk → EReal) (r : Fin nk → Fin 16 → EReal) (hx : ∀ k, ∃ a : ℝ, x k = a)
    (hr : ∀ k e, ∃ a : ℝ, r k e = a) : ∃ q : Fin 16 → ℝ, (∀ e, 0 < q e) ∧ ∀ e, raw x r e = q e := by
  choose x' hx' using hx
  choose r' hr' using hr
  have hs : ∀ e, score x r e = ((∑ k, x' k * r' k e : ℝ) : EReal) := fun e => by
    rw [← coe_sum]
    exact Finset.sum_congr rfl fun k _ => by rw [hx', hr', EReal.coe_mul]
  have hlt : top x r < ⊤ := (Finset.fold_max_lt _).mpr ⟨bot_lt_top, fun e _ => by rw [hs]; exact EReal.coe_lt_top _⟩
  have hgt : ⊥ < top x r := (Finset.lt_fold_max _).mpr (.inr ⟨0, Finset.mem_univ _, by rw [hs]; exact EReal.bot_lt_coe _⟩)
  obtain ⟨t, ht⟩ : ∃ t : ℝ, top x r = t := ⟨(top x r).toReal, (EReal.coe_toReal hlt.ne hgt.ne').symm⟩
  refine ⟨fun e => Real.exp ((∑ k, x' k * r' k e) - t), fun e => Real.exp_pos _, fun e => ?_⟩
  rw [raw, hs, ht, ← EReal.coe_sub]
  rfl
end

/-! ## Mixing the experts -/

/-- A token's weight for expert `e` as the device that holds `e` computes it: the token's two gates, each counted only if
    its expert is `e`, over the sum of the two. -/
def weight (g₀ g₁ : EReal) (e₀ e₁ e : Fin 16) : EReal :=
  Ideal.div ((if e₀ = e then g₀ else 0) + (if e₁ = e then g₁ else 0)) (g₀ + g₁)

/-- The product of a token with one column of an expert, the token scaled first. -/
def scaledDot {nk : ℕ} (x : Fin nk → EReal) (w : EReal) (W : Fin nk → EReal) : EReal := ∑ k, (x k * w) * W k

/-- The product of a token with one column of an expert. -/
def dot {nk : ℕ} (x : Fin nk → EReal) (W : Fin nk → EReal) : EReal := ∑ k, x k * W k

/-- A nonnegative real weight comes out of the product. -/
theorem scaledDot_real {nk : ℕ} (x : Fin nk → EReal) (c : ℝ) (hc : 0 ≤ c) (W : Fin nk → EReal) :
    scaledDot x c W = (c : EReal) * dot x W := by
  rw [scaledDot, dot, coe_mul_sum _ c hc]
  exact Finset.sum_congr rfl fun k _ => by rw [mul_comm (x k), mul_assoc]

/-- Over all sixteen experts, the products of the token scaled by its weights sum to the mixture of its two experts'
    products by the softmax probabilities renormalised over the two. -/
theorem mix {nk : ℕ} (x : Fin nk → EReal) (W : Fin 16 → Fin nk → EReal) (p : Fin 16 → EReal) (q : Fin 16 → ℝ)
    (hq : ∀ e, 0 < q e) (hp : ∀ e, p e = q e) (e₀ e₁ : Fin 16) :
    ∑ e, scaledDot x (weight (p e₀) (p e₁) e₀ e₁ e) (W e)
      = Ideal.div (Ideal.div (p e₀) (∑ e, p e)) (Ideal.div (p e₀) (∑ e, p e) + Ideal.div (p e₁) (∑ e, p e)) * dot x (W e₀)
        + Ideal.div (Ideal.div (p e₁) (∑ e, p e)) (Ideal.div (p e₀) (∑ e, p e) + Ideal.div (p e₁) (∑ e, p e)) * dot x (W e₁) := by
  have hS : 0 < ∑ e, q e := Finset.sum_pos (fun e _ => hq e) Finset.univ_nonempty
  have h2 : 0 < q e₀ + q e₁ := add_pos (hq e₀) (hq e₁)
  have hsum : ∑ e, p e = ((∑ e, q e : ℝ) : EReal) := by
    rw [← coe_sum]; exact Finset.sum_congr rfl fun e _ => hp e
  have h3 : q e₀ / (∑ e, q e) + q e₁ / (∑ e, q e) ≠ 0 := by
    rw [← add_div]; exact (div_pos h2 hS).ne'
  have hw : ∀ e, scaledDot x (weight (p e₀) (p e₁) e₀ e₁ e) (W e)
      = (if e₀ = e then ((q e₀ / (q e₀ + q e₁) : ℝ) : EReal) * dot x (W e) else 0)
        + (if e₁ = e then ((q e₁ / (q e₀ + q e₁) : ℝ) : EReal) * dot x (W e) else 0) := fun e => by
    have hv : weight (p e₀) (p e₁) e₀ e₁ e
        = (((if e₀ = e then q e₀ / (q e₀ + q e₁) else 0) + (if e₁ = e then q e₁ / (q e₀ + q e₁) else 0) : ℝ) : EReal) := by
      have hn : ((if e₀ = e then p e₀ else 0) + (if e₁ = e then p e₁ else 0))
          = (((if e₀ = e then q e₀ else 0) + (if e₁ = e then q e₁ else 0) : ℝ) : EReal) := by
        rw [hp, hp, EReal.coe_add]; split_ifs <;> rfl
      rw [weight, hn, hp, hp, ← EReal.coe_add, div_real _ _ h2.ne']
      congr 1
      split_ifs <;> simp [add_div]
    have n₀ : 0 ≤ if e₀ = e then q e₀ / (q e₀ + q e₁) else 0 := by
      split_ifs; exacts [(div_pos (hq e₀) h2).le, le_rfl]
    have n₁ : 0 ≤ if e₁ = e then q e₁ / (q e₀ + q e₁) else 0 := by
      split_ifs; exacts [(div_pos (hq e₁) h2).le, le_rfl]
    rw [hv, scaledDot_real x _ (add_nonneg n₀ n₁), EReal.coe_add,
      EReal.right_distrib_of_nonneg (EReal.coe_nonneg.mpr n₀) (EReal.coe_nonneg.mpr n₁)]
    split_ifs <;> simp
  have hc : ∀ e, q e / (∑ e, q e) / (q e₀ / (∑ e, q e) + q e₁ / (∑ e, q e)) = q e / (q e₀ + q e₁) := fun e => by
    rw [← add_div, div_div_div_cancel_right₀ hS.ne']
  simp_rw [hw]
  rw [Finset.sum_add_distrib, Finset.sum_ite_eq, Finset.sum_ite_eq, if_pos (Finset.mem_univ _), if_pos (Finset.mem_univ _),
    hsum, hp, hp, div_real _ _ hS.ne', div_real _ _ hS.ne', ← EReal.coe_add, div_real _ _ h3, div_real _ _ h3, hc, hc]

/-- Two experts to each of eight devices are the sixteen. -/
theorem sum_pairs {α : Type*} [AddCommMonoid α] (f : Fin 16 → α) :
    ∑ d : Fin 8, (f ⟨2 * d.val, by omega⟩ + f ⟨2 * d.val + 1, by omega⟩) = ∑ e, f e := by
  simp only [Fin.sum_univ_succ, Fin.sum_univ_zero, add_zero, ← add_assoc]
  rfl

end Cert.Model

end
-- ==== Proof.KernelValue.lean ====
/-
# What the kernel computes, element by element

At the ideal instance each payload of the body is read at an index, and from them `outAt`, the block that a device leaves in
its result: a sum over the eight devices and their two experts each.
-/
module

public import proofs.«01_k».proof.Proof.Run
public import proofs.«01_k».proof.Proof.Model
public import Idealize.ShloMosaic.Lib.Pointwise
public import Idealize.ShloMosaic.Lib.Pipeline.ValueKit

@[expose] public section

set_option maxRecDepth 16384

noncomputable section

namespace Cert.KernelIdealProof

open Cert.KernelIdeal Cert.KernelIdeal.Gen Idealize.ShloMosaic Idealize.ShloMosaic.TcCoe Idealize.SL.Sem
open Cert.Model

/-! ## The payloads at an index -/

/-- The pattern of minus infinity. -/
theorem ofBits_neg_inf : Ideal.ofBits .f32 0xFF800000#32 = ⊥ := by simp [Ideal.ofBits, Ideal.ieee]

/-- The exponentials of the scores. -/
theorem pay2_apply (x : Vec Ideal S512x256 .f32) (r : Vec Ideal S256x16 .f32) (i : Fin 512) (e : Fin 16) :
    k0_pay2 x r (ix2 i e) = raw (fun k => x (ix2 i k)) (fun k e => r (ix2 k e)) e := by
  pointwise [k0_pay2, k0_pay1]
  rw [ofBits_neg_inf]
  rfl

/-- Of sixteen numbers those are kept whose position is `w`'s: one is, if `w` names a position. -/
theorem sum_select (f : Fin 16 → EReal) (w : BitVec 32) (n : Fin 16) (hw : w = BitVec.ofNat 32 n.val) :
    ∑ e : Fin 16, Scalar.select (IntOp.cmpi .eq (BitVec.ofNat 32 e.val) w) (f e) 0 = f n := by
  subst hw
  rw [Finset.sum_eq_single n]
  · have : ∀ n : Fin 16, IntOp.cmpi .eq (BitVec.ofNat 32 n.val) (BitVec.ofNat 32 n.val) = 1#1 := by decide
    rw [this]; rfl
  · intro e _ h
    have : ∀ e n : Fin 16, e ≠ n → IntOp.cmpi .eq (BitVec.ofNat 32 e.val) (BitVec.ofNat 32 n.val) = 0#1 := by decide
    rw [this e n h]; rfl
  · exact fun h => absurd (Finset.mem_univ _) h

/-- The first gate: the exponential of the token's first expert. -/
theorem pay5_apply (x : Vec Ideal S512x256 .f32) (r : Vec Ideal S256x16 .f32) (a : Vec Ideal S512x1 .i32) (i : Fin 512) (n : Fin 16)
    (hn : a (ix2 i 0) = BitVec.ofNat 32 n.val) :
    k0_pay5 x r a (ix2 i 0) = raw (fun k => x (ix2 i k)) (fun k e => r (ix2 k e)) n := by
  pointwise [k0_pay5, k0_pay3]
  simp only [pay2_apply]
  exact sum_select _ _ n hn

/-- The second gate: that of its second. -/
theorem pay6_apply (x : Vec Ideal S512x256 .f32) (r : Vec Ideal S256x16 .f32) (a : Vec Ideal S512x1 .i32) (i : Fin 512) (n : Fin 16)
    (hn : a (ix2 i 0) = BitVec.ofNat 32 n.val) :
    k0_pay6 x r a (ix2 i 0) = raw (fun k => x (ix2 i k)) (fun k e => r (ix2 k e)) n := by
  pointwise [k0_pay6, k0_pay4]
  simp only [pay2_apply]
  exact sum_select _ _ n hn

/-- A choice by the comparison of two small words is the choice by the numbers. -/
theorem select_ofNat (g : EReal) (n e : Fin 16) :
    Scalar.select (IntOp.cmpi .eq (BitVec.ofNat 32 n.val) (BitVec.ofNat 32 e.val)) g 0 = if n = e then g else 0 := by
  by_cases h : n = e
  · subst h
    have : ∀ n : Fin 16, IntOp.cmpi .eq (BitVec.ofNat 32 n.val) (BitVec.ofNat 32 n.val) = 1#1 := by decide
    rw [if_pos rfl, this]; rfl
  · rw [if_neg h]
    have : ∀ e n : Fin 16, n ≠ e → IntOp.cmpi .eq (BitVec.ofNat 32 n.val) (BitVec.ofNat 32 e.val) = 0#1 := by decide
    rw [this e n h]; rfl

/-- The device's word and its two experts' numbers. -/
theorem pos_fst (c : Dev nD) : Scalar.muli 2#32 (pos c) = BitVec.ofNat 32 (2 * c.val) := by revert c; decide
/-- The number of the device's second expert, as a word. -/
theorem pos_snd (c : Dev nD) : Scalar.addi (Scalar.muli 2#32 (pos c)) 1#32 = BitVec.ofNat 32 (2 * c.val + 1) := by revert c; decide

/-- A device's partial product from its scaled rows and its two experts. -/
theorem pay10_apply (x y : Vec Ideal S1x64x256 .f32) (a b : Vec Ideal S1x256x512 .f32) (i : Fin 64) (j : Fin 512) :
    k0_pay10 x y a b (ix3 0 i j)
      = ∑ k : Fin 256, x (ix3 0 i k) * a (ix3 0 k j) + ∑ k : Fin 256, y (ix3 0 i k) * b (ix3 0 k j) := by
  pointwise [k0_pay10]

/-- The eight gathered blocks are added. -/
theorem pay18_apply (x : Vec Ideal S8x64x512 .f32) (i : Fin 64) (j : Fin 512) :
    k0_pay18 x (ix2 i j) = ∑ o : Fin 8, x (ix3 o i j) := by
  pointwise [k0_pay18]

/-! ## The inputs -/

variable (m : (ℓ : Loc nD τ sig) → Buf (Elt Ideal) ℓ) (ρ : Dev nD → PrngReg)

/-- Token `i` of device `c`, its router, the routing table's word `s` for token `i`, and column `j` of its expert `e`. -/
def tok (c : Dev nD) (i : Fin 512) : Fin 256 → EReal := fun k => m ((c.tc : Thread nD τ).loc main_arg0) (ix2 i k)
def rtr (c : Dev nD) : Fin 256 → Fin 16 → EReal := fun k e => m ((c.tc : Thread nD τ).loc main_arg1) (ix2 k e)
def rte (c : Dev nD) (i : Fin 512) (s : Fin 2) : BitVec 32 := m ((c.tc : Thread nD τ).loc main_arg2) (ix2 i s)
def exw (c : Dev nD) (e : Fin 2) (j : Fin 512) : Fin 256 → EReal := fun k => m ((c.tc : Thread nD τ).loc main_arg3) (ix3 e k j)

/-- A window of the whole array reads the array, and the staged inputs are the argument arrays. -/
theorem read_0 (f : main_arg0.ty.Contents (Elt Ideal)) (t : Fin grid0.N) : (win0_0.blk t).view.read (Elt Ideal) f = f := by
  have e : ∀ t a, win0_0.index t a = 0 := by decide +kernel
  funext i
  blk_simp
  exact congrArg f (by blk_ext [e])
/-- The staged tokens are the tokens. -/
theorem xIn_eq (c : Dev nD) : xIn m ρ c = m ((c.tc : Thread nD τ).loc main_arg0) := read_0 _ _

/-- The router's window reads the router; -/
theorem read_1 (f : main_arg1.ty.Contents (Elt Ideal)) (t : Fin grid0.N) : (win0_1.blk t).view.read (Elt Ideal) f = f := by
  have e : ∀ t a, win0_1.index t a = 0 := by decide +kernel
  funext i
  blk_simp
  exact congrArg f (by blk_ext [e])
/-- so the staged router is the router. -/
theorem rIn_eq (c : Dev nD) : rIn m ρ c = m ((c.tc : Thread nD τ).loc main_arg1) := read_1 _ _

/-- The window of the routing words reads them; -/
theorem read_2 (f : main_arg2.ty.Contents (Elt Ideal)) (t : Fin grid0.N) : (win0_2.blk t).view.read (Elt Ideal) f = f := by
  have e : ∀ t a, win0_2.index t a = 0 := by decide +kernel
  funext i
  blk_simp
  exact congrArg f (by blk_ext [e])
/-- so the staged words are the words. -/
theorem iIn_eq (c : Dev nD) : iIn m ρ c = m ((c.tc : Thread nD τ).loc main_arg2) := read_2 _ _

/-- The experts' window reads the experts; -/
theorem read_3 (f : main_arg3.ty.Contents (Elt Ideal)) (t : Fin grid0.N) : (win0_3.blk t).view.read (Elt Ideal) f = f := by
  have e : ∀ t a, win0_3.index t a = 0 := by decide +kernel
  funext i
  blk_simp
  exact congrArg f (by blk_ext [e])
/-- so the staged experts are the experts. -/
theorem eIn_eq (c : Dev nD) : eIn m ρ c = m ((c.tc : Thread nD τ).loc main_arg3) := read_3 _ _

/-- The two columns of the routing table. -/
theorem col0_apply (c : Dev nD) (i : Fin 512) : col0 m ρ c (ix2 i 0) = rte m c i 0 := by
  unfold rte
  rw [← iIn_eq m ρ c]
  show View.ld (iIn m ρ c) colR0 (ix2 i 0) = _
  pointwise

/-- The second column of the routing words, at a row. -/
theorem col1_apply (c : Dev nD) (i : Fin 512) : col1 m ρ c (ix2 i 0) = rte m c i 1 := by
  unfold rte
  rw [← iIn_eq m ρ c]
  show View.ld (iIn m ρ c) colR1 (ix2 i 0) = _
  pointwise

/-- The device's two experts. -/
theorem exp0_apply (c : Dev nD) (k : Fin 256) (j : Fin 512) :
    exp0 m ρ c (ix3 0 k j) = exw m c 0 j k := by
  unfold exw
  rw [← eIn_eq m ρ c]
  show View.ld (eIn m ρ c) expR0 (ix3 0 k j) = _
  pointwise

/-- The second expert's matrix at an index. -/
theorem exp1_apply (c : Dev nD) (k : Fin 256) (j : Fin 512) :
    exp1 m ρ c (ix3 0 k j) = exw m c 1 j k := by
  unfold exw
  rw [← eIn_eq m ρ c]
  show View.ld (eIn m ρ c) expR1 (ix3 0 k j) = _
  pointwise

/-! ## The result -/

/-- The result array holds what the body left in its block: one grid point, one block. -/
theorem finalA_4 (c : Dev nD) : finalA m ρ c (4 : Fin 5) = outAt m ρ c := by
  have e : ∀ t a, win0_4.index t a = 0 := by decide +kernel
  refine (dats m ρ 0 c).arrAt_eq_of_covers (4 : Fin 5) _ (by decide +kernel) fun t hf y => ?_
  blk_simp
  exact congrArg (outAt m ρ c) (by blk_ext [e])

section
variable (c : Dev nD) (i : Fin 512) (k : Fin 256) (n₀ n₁ : Fin 16) (h₀ : rte m c i 0 = BitVec.ofNat 32 n₀.val)
  (h₁ : rte m c i 1 = BitVec.ofNat 32 n₁.val) (e : Fin 16)
include h₀ h₁

omit h₁ in
/-- The two gates of token `i`. -/
theorem gate0_apply : k0_pay5 (xIn m ρ c) (rIn m ρ c) (col0 m ρ c) (ix2 i 0) = raw (tok m c i) (rtr m c) n₀ := by
  rw [pay5_apply _ _ _ i n₀ (by rw [col0_apply, h₀]), xIn_eq, rIn_eq]; rfl
omit h₀ in
/-- The second gate of a token, likewise. -/
theorem gate1_apply : k0_pay6 (xIn m ρ c) (rIn m ρ c) (col1 m ρ c) (ix2 i 0) = raw (tok m c i) (rtr m c) n₁ := by
  rw [pay6_apply _ _ _ i n₁ (by rw [col1_apply, h₁]), xIn_eq, rIn_eq]; rfl

/-- Token `i` scaled by its weight for the device's first expert, and for its second. -/
theorem scaled0_apply (he : e.val = 2 * c.val) : scaled0 m ρ c (ix3 0 i k)
    = tok m c i k * weight (raw (tok m c i) (rtr m c) n₀) (raw (tok m c i) (rtr m c) n₁) n₀ n₁ e := by
  unfold scaled0
  pointwise [k0_pay8, k0_pay7, k0_pay3, k0_pay4, k0_pay1]
  rw [gate0_apply m ρ c i n₀ h₀, gate1_apply m ρ c i n₁ h₁, col0_apply, col1_apply, h₀, h₁, pos_fst, ← he, select_ofNat, select_ofNat,
    xIn_eq]
  rfl
/-- A token scaled for the device's second expert, at an index. -/
theorem scaled1_apply (he : e.val = 2 * c.val + 1) : scaled1 m ρ c (ix3 0 i k)
    = tok m c i k * weight (raw (tok m c i) (rtr m c) n₀) (raw (tok m c i) (rtr m c) n₁) n₀ n₁ e := by
  unfold scaled1
  pointwise [k0_pay9, k0_pay7, k0_pay3, k0_pay4, k0_pay1]
  rw [gate0_apply m ρ c i n₀ h₀, gate1_apply m ρ c i n₁ h₁, col0_apply, col1_apply, h₀, h₁, pos_snd, ← he, select_ofNat, select_ofNat,
    xIn_eq]
  rfl
end

/-- Row `r` of row block `t` as a token. -/
def rowOf (t : Dev nD) (r : Fin 64) : Fin 512 := ⟨64 * t.val + r.val, by have := t.isLt; simp only [nD] at this; omega⟩

/-- The scaled rows of block `t` are the scaled tokens. -/
theorem rows0_apply (c t : Dev nD) (r : Fin 64) (k : Fin 256) : rows m ρ 0 c t (ix3 0 r k) = scaled0 m ρ c (ix3 0 (rowOf t r) k) := by
  show scaled m ρ c (rowIx 0 t (ix3 0 r k)) = _
  exact (if_pos rfl).trans <| congrArg (scaled0 m ρ c) (by funext a; fin_cases a <;> rfl)
/-- So it is for the second expert. -/
theorem rows1_apply (c t : Dev nD) (r : Fin 64) (k : Fin 256) : rows m ρ 1 c t (ix3 0 r k) = scaled1 m ρ c (ix3 0 (rowOf t r) k) := by
  show scaled m ρ c (rowIx 1 t (ix3 0 r k)) = _
  exact (if_neg Nat.one_ne_zero).trans <| congrArg (scaled1 m ρ c) (by funext a; fin_cases a <;> rfl)

/-- The partial product of device `c` for row block `t`: the products of the scaled token with the device's two experts. -/
theorem part_apply (c t : Dev nD) (r : Fin 64) (j : Fin 512) (n₀ n₁ e e' : Fin 16) (h₀ : rte m c (rowOf t r) 0 = BitVec.ofNat 32 n₀.val)
    (h₁ : rte m c (rowOf t r) 1 = BitVec.ofNat 32 n₁.val) (he : e.val = 2 * c.val) (he' : e'.val = 2 * c.val + 1) (p : Fin 16 → EReal)
    (hp : raw (tok m c (rowOf t r)) (rtr m c) = p) :
    part m ρ c t (ix3 0 r j) = scaledDot (tok m c (rowOf t r)) (weight (p n₀) (p n₁) n₀ n₁ e) (exw m c 0 j)
      + scaledDot (tok m c (rowOf t r)) (weight (p n₀) (p n₁) n₀ n₁ e') (exw m c 1 j) := by
  subst hp
  unfold part
  rw [pay10_apply]
  simp only [rows0_apply, rows1_apply, exp0_apply, exp1_apply, scaled0_apply m ρ c _ _ n₀ n₁ h₀ h₁ e he,
    scaled1_apply m ρ c _ _ n₀ n₁ h₀ h₁ e' he']
  rfl

/-- The result of device `c`: the partial products of all eight devices for `c`'s rows, added. -/
theorem outAt_apply (c : Dev nD) (r : Fin 64) (j : Fin 512) : (outAt m ρ c (ix2 r j) : EReal) = ∑ d : Dev nD, part m ρ d c (ix3 0 r j) := by
  have hb : ∀ c : Dev nD, Function.Bijective fun o : Fin 8 => bwd c o.val := by decide
  refine (pay18_apply _ r j).trans ?_
  rw [← (hb c).sum_comp fun d => part m ρ d c (ix3 0 r j)]
  exact Finset.sum_congr rfl fun o _ => congrArg (part m ρ (bwd c o.val) c) (by funext a; fin_cases a <;> rfl)

end Cert.KernelIdealProof

end
-- ==== Proof.RefValue.lean ====
/-
# What the reference computes, element by element

The reference is one pure term of its arguments. It is cut into the router's probabilities, the words by which it gathers,
the two gates and the two experts' products, and each is read at an index, for routing words that name experts.
-/
module

public import proofs.«01_k».proof.Proof.Gen.ReferenceIdeal.Run
public import proofs.«01_k».proof.Proof.Model
public import Idealize.ShloMosaic.Lib.Pointwise
public import Idealize.ShloMosaic.Lib.Tactic.CleanTypes

@[expose] public section

set_option maxRecDepth 16384

noncomputable section

namespace Cert.RefValue

open Cert.ReferenceIdeal Cert.ReferenceIdeal.Gen Idealize.ShloMosaic Idealize.ShloMosaic.TcCoe Idealize.SL.Sem
open Cert.Model

/-! ## The term, cut -/

/-- The exponentials of the scores less the greatest. -/
def exps (x : FVec Ideal S512x256 .f32) (r : FVec Ideal S256x16 .f32) : FVec Ideal S512x16 .f32 :=
  Host.exp (subf (Host.dotGeneral dot_S512x256_S256x16_S512x16_1_0_0_1_n_n none x r)
    (broadcastInDim S512x16 ![0, 1] bcast_S512x1_S512x16_0_1 (broadcastInDim S512x1 ![0] bcast_S512_S512x1_0
      (Host.reduce FloatOps.maximumf (Host.dotGeneral dot_S512x256_S256x16_S512x16_1_0_0_1_n_n none x r)
        (constant S_ .f32 0xFF800000#32) reducesTo_S512x16_S512_d1 h_S_))))

/-- The probabilities. -/
def probs (x : FVec Ideal S512x256 .f32) (r : FVec Ideal S256x16 .f32) : FVec Ideal S512x16 .f32 :=
  Host.divf (exps x r) (broadcastInDim S512x16 ![0, 1] bcast_S512x1_S512x16_0_1 (broadcastInDim S512x1 ![0] bcast_S512_S512x1_0
    (Host.reduceAdd (exps x r) (constant S_ .f32 0x00000000#32) reducesTo_S512x16_S512_d1 h_S_)))

/-- The routing words, the negative ones moved up by sixteen, as the gates' gather takes them. -/
def words (w : IVec S512x2 32) : IVec S512x2x1 32 :=
  shapeCast _ (select (cmpi .slt w (broadcastInDim S512x2 ![] bcast_S_S512x2 (constantI S_ 32 0#32)))
    (addi w (broadcastInDim S512x2 ![] bcast_S_S512x2 (constantI S_ 32 16#32))) w) shapeCasts_S512x2_S512x2x1

/-- The two gates of every token. -/
def gates (x : FVec Ideal S512x256 .f32) (r : FVec Ideal S256x16 .f32) (w : IVec S512x2 32) : FVec Ideal S512x2 .f32 :=
  Host.gather gather_S512x16_S512x2x1_S512x2_n_1_0_0_1_2_11 (probs x r) (words w)

/-- The product of every token with an expert of its own, the experts named by a column of words. -/
def product (x : FVec Ideal S512x256 .f32) (W : FVec Ideal S16x256x512 .f32) (w : IVec S512x1 32) : FVec Ideal S512x512 .f32 :=
  Host.dotGeneral dot_S512x256_S512x256x512_S512x512_1_1_n_2_0_0 none x
    (Host.gather gather_S16x256x512_S512x1_S512x256x512_12_0_n_n_0_1_1256512 W
      (broadcastInDim S512x1 ![0] bcast_S512_S512x1_0
        (select (cmpi .slt (shapeCast S512 w shapeCasts_S512x1_S512) (broadcastInDim S512 ![] bcast_S_S512 (constantI S_ 32 0#32)))
          (addi (shapeCast S512 w shapeCasts_S512x1_S512) (broadcastInDim S512 ![] bcast_S_S512 (constantI S_ 32 16#32)))
          (shapeCast S512 w shapeCasts_S512x1_S512))))

/-- The mixture of two products by two gates. -/
def mixture (g h : FVec Ideal S512x1 .f32) (y z : FVec Ideal S512x512 .f32) : FVec Ideal S512x512 .f32 :=
  addf (mulf (broadcastInDim S512x512 ![0, 1] bcast_S512x1_S512x512_0_1 (Host.divf g (addf g h))) y)
    (mulf (broadcastInDim S512x512 ![0, 1] bcast_S512x1_S512x512_0_1 (Host.divf h (addf g h))) z)

/-- The reference's result. -/
def result (x : FVec Ideal S512x256 .f32) (r : FVec Ideal S256x16 .f32) (w : IVec S512x2 32) (W : FVec Ideal S16x256x512 .f32) :
    FVec Ideal S512x512 .f32 :=
  mixture (extractStridedSlice S512x1 ![0, 0] (gates x r w) slices_S512x2_S512x1_0_0)
    (extractStridedSlice S512x1 ![0, 1] (gates x r w) slices_S512x2_S512x1_0_1)
    (product x W (extractStridedSlice S512x1 ![0, 0] w slices_S512x2_S512x1_0_0))
    (product x W (extractStridedSlice S512x1 ![0, 1] w slices_S512x2_S512x1_0_1))

/-- The reference's result term is the cut one. -/
theorem out_eq (m : (ℓ : Loc nD τ sig) → Buf (Elt Ideal) ℓ) (c : Dev nD) : Cert.ReferenceIdeal.Value.res_out0 m c
    = result (m ((c.tc : Thread nD τ).loc main_arg0)) (m ((c.tc : Thread nD τ).loc main_arg1))
      (m ((c.tc : Thread nD τ).loc main_arg2)) (m ((c.tc : Thread nD τ).loc main_arg3)) := rfl

/-! ## The parts at an index -/

variable (x : FVec Ideal S512x256 .f32) (r : FVec Ideal S256x16 .f32) (w : IVec S512x2 32) (W : FVec Ideal S16x256x512 .f32)
  (i : Fin 512)

/-- An exponential at an index: the model's. -/
theorem exps_apply (e : Fin 16) : exps x r (ix2 i e) = raw (fun k => x (ix2 i k)) (fun k e => r (ix2 k e)) e := by
  have hb : Ideal.ofBits .f32 0xFF800000#32 = ⊥ := by simp [Ideal.ofBits, Ideal.ieee]
  pointwise [exps]
  rw [hb]
  rfl

/-- A probability at an index: the exponential over the sum of the row's. -/
theorem probs_apply (e : Fin 16) : probs x r (ix2 i e)
    = Ideal.div (raw (fun k => x (ix2 i k)) (fun k e => r (ix2 k e)) e) (∑ e, raw (fun k => x (ix2 i k)) (fun k e => r (ix2 k e)) e) := by
  pointwise [probs]
  simp only [exps_apply]

/-- A word that names an expert is not negative: it is left where it is. -/
theorem wrap (v : BitVec 32) (n : Fin 16) (h : v = BitVec.ofNat 32 n.val) :
    Scalar.select (IntOp.cmpi .slt v 0#32) (v + 16#32) v = BitVec.ofNat 32 n.val := by
  subst h; revert n; decide

/-- The word by which a gate is gathered is the routing word. -/
theorem words_apply (s : Fin 2) (n : Fin 16) (h : w (ix2 i s) = BitVec.ofNat 32 n.val) : words w (ix3 i s 0) = BitVec.ofNat 32 n.val := by
  pointwise [words]
  exact wrap _ n h

/-- Such a word, read signed and held to the range, is the expert's number. -/
theorem clamp (n : Fin 16) : min (BitVec.ofNat 32 n.val).toInt.toNat 15 = n.val := by revert n; decide

/-- A gate is the probability of the expert that the routing word names. -/
theorem gates_apply (s : Fin 2) (n : Fin 16) (h : w (ix2 i s) = BitVec.ofNat 32 n.val) : gates x r w (ix2 i s) = probs x r (ix2 i n) := by
  refine congrArg (probs x r) (funext fun a => Fin.ext ?_)
  have hs : gather_S512x16_S512x2x1_S512x2_n_1_0_0_1_2_11.siIdx (ix2 i s) ⟨0, by decide⟩ = ix3 i s 0 := by
    funext b; fin_cases b <;> rfl
  fin_cases a
  · show 0 + i.val + 0 = i.val
    omega
  · show min (words w (gather_S512x16_S512x2x1_S512x2_n_1_0_0_1_2_11.siIdx (ix2 i s) ⟨0, by decide⟩)).toInt.toNat 15 + 0 + 0 = n.val
    rw [hs, words_apply w i s n h, clamp]; rfl

/-- The block of experts gathered by such words: at a token, its own expert's. -/
theorem experts_apply (v : IVec S512x1 32) (k : Fin 256) (j : Fin 512) (n : Fin 16) (h : v (ix2 i 0) = BitVec.ofNat 32 n.val) :
    Host.gather gather_S16x256x512_S512x1_S512x256x512_12_0_n_n_0_1_1256512 W v (ix3 i k j) = W (ix3 n k j) := by
  refine congrArg W (funext fun a => Fin.ext ?_)
  have hs : gather_S16x256x512_S512x1_S512x256x512_12_0_n_n_0_1_1256512.siIdx (ix3 i k j) ⟨0, by decide⟩ = ix2 i 0 := by
    funext b; fin_cases b <;> rfl
  fin_cases a
  · show min (v (gather_S16x256x512_S512x1_S512x256x512_12_0_n_n_0_1_1256512.siIdx (ix3 i k j) ⟨0, by decide⟩)).toInt.toNat 15 + 0 + 0 = n.val
    rw [hs, h, clamp]; rfl
  · show 0 + 0 + k.val = k.val
    omega
  · show 0 + 0 + j.val = j.val
    omega

/-- The product at an index is that of the token with a column of its expert. -/
theorem product_apply (v : IVec S512x1 32) (j : Fin 512) (n : Fin 16) (h : v (ix2 i 0) = BitVec.ofNat 32 n.val) :
    product x W v (ix2 i j) = dot (fun k => x (ix2 i k)) (fun k => W (ix3 n k j)) := by
  pointwise [product]
  refine Finset.sum_congr rfl fun k _ => congrArg (x (ix2 i k) * ·) (experts_apply W i _ k j n ?_)
  pointwise
  exact wrap _ n h

/-- The reference's result at an index, where the two routing words of the row name experts `n₀` and `n₁`: the two experts'
products, weighed by the two gates over their sum. -/
theorem result_apply (j : Fin 512) (n₀ n₁ : Fin 16) (h₀ : w (ix2 i 0) = BitVec.ofNat 32 n₀.val) (h₁ : w (ix2 i 1) = BitVec.ofNat 32 n₁.val)
    (p : Fin 16 → EReal) (hp : raw (fun k => x (ix2 i k)) (fun k e => r (ix2 k e)) = p) : result x r w W (ix2 i j)
    = Ideal.div (Ideal.div (p n₀) (∑ e, p e)) (Ideal.div (p n₀) (∑ e, p e) + Ideal.div (p n₁) (∑ e, p e))
        * dot (fun k => x (ix2 i k)) (fun k => W (ix3 n₀ k j))
      + Ideal.div (Ideal.div (p n₁) (∑ e, p e)) (Ideal.div (p n₀) (∑ e, p e) + Ideal.div (p n₁) (∑ e, p e))
        * dot (fun k => x (ix2 i k)) (fun k => W (ix3 n₁ k j)) := by
  subst hp
  have y₀ : product x W (extractStridedSlice S512x1 ![0, 0] w slices_S512x2_S512x1_0_0) (ix2 i j) = _ :=
    product_apply x W i _ j n₀ (by pointwise; exact h₀)
  have y₁ : product x W (extractStridedSlice S512x1 ![0, 1] w slices_S512x2_S512x1_0_1) (ix2 i j) = _ :=
    product_apply x W i _ j n₁ (by pointwise; exact h₁)
  have g₀ : gates x r w (ix2 i 0) = _ := (gates_apply x r w i 0 n₀ h₀).trans (probs_apply x r i n₀)
  have g₁ : gates x r w (ix2 i 1) = _ := (gates_apply x r w i 1 n₁ h₁).trans (probs_apply x r i n₁)
  pointwise [result, mixture]
  rw [y₀, y₁, g₀, g₁]

end Cert.RefValue

end
-- ==== Proof.Value.lean ====
/-
# The kernel's results are the reference's

The precondition is decoded to plain statements about the arguments; under it the block that a device ends with is its block
of the reference's result; the two runs then give the value claim.
-/
module

public import proofs.«01_k».proof.Proof.Frames
public import proofs.«01_k».proof.Proof.KernelValue
public import proofs.«01_k».proof.Proof.RefValue
public import Idealize.ShloMosaic.Lib.ReduceAll
public import Idealize.ShloMosaic.Lib.WordCmp
public import Idealize.ShloMosaic.Lib.LayoutAt

@[expose] public section

set_option maxRecDepth 16384

noncomputable section

namespace Cert.Value

open Idealize.ShloMosaic Idealize.ShloMosaic.TcCoe Idealize.SL.Sem
open Cert.Model Cert.KernelIdealProof

/-! ## The precondition -/

/-- An extended real whose absolute value is below infinity is a real number. -/
theorem real_of_abs (a : EReal) (h : Ideal.cmp CmpFPredicate.olt (max a (-a)) ⊤ = 1#1) : ∃ b : ℝ, a = b := by
  induction a with
  | bot => simp [Ideal.cmp] at h
  | top => simp [Ideal.cmp] at h
  | coe b => exact ⟨b, rfl⟩

/-- A word at least zero and below sixteen, read signed, names an expert. -/
theorem expert_of_word (v : BitVec 32) (h : IntOp.andi (IntOp.cmpi .sge v 0#32) (IntOp.cmpi .slt v 16#32) = 1#1) :
    ∃ n : Fin 16, v = BitVec.ofNat 32 n.val := by
  have e := (WordCmp.andi_sge_zero_slt_ofNat (w := 32) (k := 16) (by decide) v).symm.trans h
  have hv : v.toNat < 16 := by
    by_contra hn
    rw [decide_eq_false hn] at e
    exact absurd e (by decide)
  exact ⟨⟨v.toNat, hv⟩, by simp⟩

/-- What the precondition says of the arguments a device reads: the tokens and the router are real numbers, and every routing
word names an expert. -/
theorem pre_decoded (x : FVec Ideal Cert.KernelIdeal.S512x256 .f32) (r : FVec Ideal Cert.KernelIdeal.S256x16 .f32)
    (w : IVec Cert.KernelIdeal.S512x2 32) (W : FVec Ideal Cert.KernelIdeal.S2x256x512 .f32)
    (h : Cert.Pre_well_posed_KernelIdeal.fn (F := Ideal) x r w W = fun _ => 1#1) :
    (∀ i k, ∃ a : ℝ, x (ix2 i k) = a) ∧ (∀ k e, ∃ a : ℝ, r (ix2 k e) = a) ∧ ∀ i s, ∃ n : Fin 16, w (ix2 i s) = BitVec.ofNat 32 n.val := by
  have ht : Ideal.ofBits .f32 0x7F800000#32 = ⊤ := by simp [Ideal.ofBits, Ideal.ieee]
  haveI : Subsingleton Cert.Pre_well_posed_KernelIdeal.S_.Idx := ⟨fun _ _ => funext fun b => b.elim0⟩
  have h' := congrFun h fun b => b.elim0
  dsimp only [Cert.Pre_well_posed_KernelIdeal.fn] at h'
  obtain ⟨h', hw⟩ := IntOp.andi_eq_one.mp h'
  obtain ⟨hx, hr⟩ := IntOp.andi_eq_one.mp h'
  refine ⟨fun i k => real_of_abs _ ?_, fun k e => real_of_abs _ ?_, fun i s => expert_of_word _ ?_⟩
  · rw [← ht]; exact Host.reduce_andi_all _ _ _ _ _ hx (ix2 i k)
  · rw [← ht]; exact Host.reduce_andi_all _ _ _ _ _ hr (ix2 k e)
  · exact Host.reduce_andi_all _ _ _ _ _ hw (ix2 i s)

/-! ## The blocks -/

/-- The result block of device `c`, from arguments laid out as the claim says and satisfying the precondition, is block `c` of
the reference's result. -/
theorem outAt_eq (m : (ℓ : Loc Cert.KernelIdeal.nD Cert.KernelIdeal.τ Cert.KernelIdeal.sig) → Buf (Elt Ideal) ℓ)
    (ρ : Dev Cert.KernelIdeal.nD → PrngReg) (x : FVec Ideal Cert.KernelIdeal.S512x256 .f32) (r : FVec Ideal Cert.KernelIdeal.S256x16 .f32)
    (w : IVec Cert.KernelIdeal.S512x2 32) (W : FVec Ideal Cert.ReferenceIdeal.S16x256x512 .f32)
    (h₀ : ∀ d : Dev Cert.KernelIdeal.nD, m ((d.tc : Thread Cert.KernelIdeal.nD Cert.KernelIdeal.τ).loc Cert.KernelIdeal.main_arg0) = x)
    (h₁ : ∀ d : Dev Cert.KernelIdeal.nD, m ((d.tc : Thread Cert.KernelIdeal.nD Cert.KernelIdeal.τ).loc Cert.KernelIdeal.main_arg1) = r)
    (h₂ : ∀ d : Dev Cert.KernelIdeal.nD, m ((d.tc : Thread Cert.KernelIdeal.nD Cert.KernelIdeal.τ).loc Cert.KernelIdeal.main_arg2) = w)
    (h₃ : ∀ d : Dev Cert.KernelIdeal.nD, m ((d.tc : Thread Cert.KernelIdeal.nD Cert.KernelIdeal.τ).loc Cert.KernelIdeal.main_arg3)
      = Layout.block ⟨3, ![2, 256, 512]⟩ ⟨3, ![16, 256, 512]⟩ 0 8 d W)
    (hx : ∀ i k, ∃ a : ℝ, x (ix2 i k) = a) (hr : ∀ k e, ∃ a : ℝ, r (ix2 k e) = a)
    (hw : ∀ i s, ∃ n : Fin 16, w (ix2 i s) = BitVec.ofNat 32 n.val) (c : Dev Cert.KernelIdeal.nD) :
    outAt m ρ c = Layout.block ⟨2, ![64, 512]⟩ ⟨2, ![512, 512]⟩ 0 8 c (Cert.RefValue.result x r w W) := by
  funext i
  obtain ⟨a, j, rfl⟩ : ∃ (a : Fin 64) (j : Fin 512), i = ix2 a j := ⟨i 0, i 1, by funext b; fin_cases b <;> rfl⟩
  obtain ⟨n₀, e₀⟩ := hw (rowOf c a) 0
  obtain ⟨n₁, e₁⟩ := hw (rowOf c a) 1
  obtain ⟨q, hq, hp⟩ := raw_pos (fun k => x (ix2 (rowOf c a) k)) (fun k e => r (ix2 k e)) (fun k => hx _ k) hr
  have hl : Layout.block ⟨2, ![64, 512]⟩ ⟨2, ![512, 512]⟩ 0 8 c (Cert.RefValue.result x r w W) (by decide) (ix2 a j)
      = Cert.RefValue.result x r w W (ix2 (rowOf c a) j) := by
    refine congrArg (Cert.RefValue.result x r w W) (funext fun b => Fin.ext ?_)
    fin_cases b
    · show c.val * 64 + a.val = 64 * c.val + a.val
      omega
    · rfl
  have tok_eq (d : Dev Cert.KernelIdeal.nD) : tok m d (rowOf c a) = fun k => x (ix2 (rowOf c a) k) := by
    unfold tok; rw [h₀ d]
  have rtr_eq (d : Dev Cert.KernelIdeal.nD) : rtr m d = fun k e => r (ix2 k e) := by
    unfold rtr; rw [h₁ d]
  have exw_eq (d : Dev Cert.KernelIdeal.nD) (e : Fin 2) (e' : Fin 16) (he : e'.val = 2 * d.val + e.val) :
      exw m d e j = fun k => W (ix3 e' k j) := by
    unfold exw; rw [h₃ d]
    refine funext fun k => congrArg W (funext fun b => Fin.ext ?_)
    fin_cases b
    · show d.val * 2 + e.val = e'.val
      omega
    · rfl
    · rfl
  have hd (d : Dev Cert.KernelIdeal.nD) := part_apply m ρ d c a j n₀ n₁ ⟨2 * d.val, by have := d.isLt; simp only [Cert.KernelIdeal.nD] at this; omega⟩
    ⟨2 * d.val + 1, by have := d.isLt; simp only [Cert.KernelIdeal.nD] at this; omega⟩
    (by unfold rte; rw [h₂ d]; exact e₀) (by unfold rte; rw [h₂ d]; exact e₁) rfl rfl _ rfl
  refine (outAt_apply m ρ c a j).trans (Eq.trans ?_ (hl.trans (Cert.RefValue.result_apply x r w W _ j n₀ n₁ e₀ e₁ _ rfl)).symm)
  refine Eq.trans (α := EReal) (Finset.sum_congr rfl fun d _ => ?_) ((sum_pairs _).trans
    (mix (fun k => x (ix2 (rowOf c a) k)) (fun e k => W (ix3 e k j)) _ q hq hp n₀ n₁))
  rw [hd d, tok_eq, rtr_eq, exw_eq d 0 ⟨2 * d.val, by have := d.isLt; simp only [Cert.KernelIdeal.nD] at this; omega⟩ rfl,
    exw_eq d 1 ⟨2 * d.val + 1, by have := d.isLt; simp only [Cert.KernelIdeal.nD] at this; omega⟩ rfl]

/-! ## The value claim -/

/-- From arguments laid out over the devices and satisfying the precondition, each device ends with its block of rows of what
the reference ends with. -/
theorem algebraic : Cert.algebraic_KernelIdeal_ReferenceIdeal_pre_well_posed_KernelIdeal := fun m ρ m' ρ' hpre hm => by
  obtain ⟨hx, hr, hw⟩ := pre_decoded _ _ _ _ (hpre 0)
  rw [(hm 0).1] at hx
  rw [(hm 0).2.1] at hr
  rw [(hm 0).2.2.1] at hw
  refine ⟨Cert.ReferenceIdeal.Value.res_out0 m' 0, θ_run_mono (Cert.Frames.kernel_run (F := Ideal) m ρ) fun s h c => ?_,
    θ_run_mono (Cert.ReferenceIdeal.Value.run m' ρ') fun s h => h 0⟩
  refine ⟨((h.1 c).1.trans (finalA_4 m ρ c)).trans ?_, (h.1 c).2⟩
  rw [Cert.RefValue.out_eq]
  exact outAt_eq m ρ _ _ _ _ (fun d => (hm d).1) (fun d => (hm d).2.1) (fun d => (hm d).2.2.1) (fun d => (hm d).2.2.2) hx hr hw c

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_posed_KernelIdeal
public import proofs.«01_k».proof.Proof.Gen.Pre_well_posed_ReferenceIdeal
public import proofs.«01_k».proof.Proof.Frames
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_well_posed_KernelIdeal.Gen.facts, Cert.Pre_well_posed_ReferenceIdeal.Gen.facts,
  Cert.Frames.quiescent_kernel, Cert.Frames.quiescent_ideal, Cert.Frames.quiescent_ideal_pre, Cert.Frames.quiescent_reference,
  Cert.Frames.quiescent_reference_pre, trivial, Cert.Value.algebraic⟩

end Cert.Proof

end
